-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 8192]⟩ ⟨2, ![8192, 8192]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 256]⟩ ⟨2, ![8192, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x8192 : Shape := ⟨2, ![256, 8192]⟩
abbrev S8192x256 : Shape := ⟨2, ![8192, 256]⟩
abbrev S32 : Shape := ⟨1, ![32]⟩
abbrev S_ : Shape := ⟨0, ![]⟩
abbrev S1 : Shape := ⟨1, ![1]⟩
abbrev S256x256 : Shape := ⟨2, ![256, 256]⟩

abbrev nBuf : Space → Nat
  | .hbm => 2
  | .vmem => 2
  | .smem => 0
  | _ => 0

abbrev bufTy : (tb : Table) → Fin (tcTables nBuf tb) → BufTy
  | .hbm, ⟨0, _⟩ => ⟨S256x8192, .f32⟩
  | .hbm, ⟨1, _⟩ => ⟨S8192x256, .f32⟩
  | .local _ .vmem, ⟨0, _⟩ => ⟨S256x8192, .f32⟩
  | .local _ .vmem, ⟨1, _⟩ => ⟨S8192x256, .f32⟩
  | _, _ => ⟨S256x8192, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  v14.toNat
def k0_dev2 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v15 : BitVec 32 := Scalar.addi v2 c2_i32
  let c32_i32_7 : BitVec 32 := 32#32
  let c0_i32_8 : BitVec 32 := 0#32
  let v16 : BitVec 1 := Scalar.cmpi .eq c32_i32_7 c0_i32_8
  let c1_i32_9 : BitVec 32 := 1#32
  let v17 : BitVec 32 := Scalar.select v16 c1_i32_9 c32_i32_7
  let v18 : BitVec 32 := Scalar.remsi v15 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  v25.toNat
def k0_dev3 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v26 : BitVec 32 := Scalar.addi v2 c3_i32
  let c32_i32_14 : BitVec 32 := 32#32
  let c0_i32_15 : BitVec 32 := 0#32
  let v27 : BitVec 1 := Scalar.cmpi .eq c32_i32_14 c0_i32_15
  let c1_i32_16 : BitVec 32 := 1#32
  let v28 : BitVec 32 := Scalar.select v27 c1_i32_16 c32_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  v36.toNat
def k0_dev4 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v37 : BitVec 32 := Scalar.addi v2 c4_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  v47.toNat
def k0_dev5 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v48 : BitVec 32 := Scalar.addi v2 c5_i32
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  v58.toNat
def k0_dev6 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v59 : BitVec 32 := Scalar.addi v2 c6_i32
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  v69.toNat
def k0_dev7 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v70 : BitVec 32 := Scalar.addi v2 c7_i32
  let c32_i32_42 : BitVec 32 := 32#32
  let c0_i32_43 : BitVec 32 := 0#32
  let v71 : BitVec 1 := Scalar.cmpi .eq c32_i32_42 c0_i32_43
  let c1_i32_44 : BitVec 32 := 1#32
  let v72 : BitVec 32 := Scalar.select v71 c1_i32_44 c32_i32_42
  let v73 : BitVec 32 := Scalar.remsi v70 v72
  let c0_i32_46 : BitVec 32 := 0#32
  let v75 : BitVec 1 := Scalar.cmpi .slt v73 c0_i32_46
  let c0_i32_47 : BitVec 32 := 0#32
  let v76 : BitVec 1 := Scalar.cmpi .slt v72 c0_i32_47
  let v77 : BitVec 1 := Scalar.xori v75 v76
  let c0_i32_45 : BitVec 32 := 0#32
  let v74 : BitVec 1 := Scalar.cmpi .ne v73 c0_i32_45
  let v78 : BitVec 1 := Scalar.andi v77 v74
  let v79 : BitVec 32 := Scalar.addi v73 v72
  let v80 : BitVec 32 := Scalar.select v78 v79 v73
  v80.toNat
def k0_dev8 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v81 : BitVec 32 := Scalar.addi v2 c8_i32
  let c32_i32_49 : BitVec 32 := 32#32
  let c0_i32_50 : BitVec 32 := 0#32
  let v82 : BitVec 1 := Scalar.cmpi .eq c32_i32_49 c0_i32_50
  let c1_i32_51 : BitVec 32 := 1#32
  let v83 : BitVec 32 := Scalar.select v82 c1_i32_51 c32_i32_49
  let v84 : BitVec 32 := Scalar.remsi v81 v83
  let c0_i32_53 : BitVec 32 := 0#32
  let v86 : BitVec 1 := Scalar.cmpi .slt v84 c0_i32_53
  let c0_i32_54 : BitVec 32 := 0#32
  let v87 : BitVec 1 := Scalar.cmpi .slt v83 c0_i32_54
  let v88 : BitVec 1 := Scalar.xori v86 v87
  let c0_i32_52 : BitVec 32 := 0#32
  let v85 : BitVec 1 := Scalar.cmpi .ne v84 c0_i32_52
  let v89 : BitVec 1 := Scalar.andi v88 v85
  let v90 : BitVec 32 := Scalar.addi v84 v83
  let v91 : BitVec 32 := Scalar.select v89 v90 v84
  v91.toNat
def k0_dev9 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v92 : BitVec 32 := Scalar.addi v2 c9_i32
  let c32_i32_56 : BitVec 32 := 32#32
  let c0_i32_57 : BitVec 32 := 0#32
  let v93 : BitVec 1 := Scalar.cmpi .eq c32_i32_56 c0_i32_57
  let c1_i32_58 : BitVec 32 := 1#32
  let v94 : BitVec 32 := Scalar.select v93 c1_i32_58 c32_i32_56
  let v95 : BitVec 32 := Scalar.remsi v92 v94
  let c0_i32_60 : BitVec 32 := 0#32
  let v97 : BitVec 1 := Scalar.cmpi .slt v95 c0_i32_60
  let c0_i32_61 : BitVec 32 := 0#32
  let v98 : BitVec 1 := Scalar.cmpi .slt v94 c0_i32_61
  let v99 : BitVec 1 := Scalar.xori v97 v98
  let c0_i32_59 : BitVec 32 := 0#32
  let v96 : BitVec 1 := Scalar.cmpi .ne v95 c0_i32_59
  let v100 : BitVec 1 := Scalar.andi v99 v96
  let v101 : BitVec 32 := Scalar.addi v95 v94
  let v102 : BitVec 32 := Scalar.select v100 v101 v95
  v102.toNat
def k0_dev10 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v103 : BitVec 32 := Scalar.addi v2 c10_i32
  let c32_i32_63 : BitVec 32 := 32#32
  let c0_i32_64 : BitVec 32 := 0#32
  let v104 : BitVec 1 := Scalar.cmpi .eq c32_i32_63 c0_i32_64
  let c1_i32_65 : BitVec 32 := 1#32
  let v105 : BitVec 32 := Scalar.select v104 c1_i32_65 c32_i32_63
  let v106 : BitVec 32 := Scalar.remsi v103 v105
  let c0_i32_67 : BitVec 32 := 0#32
  let v108 : BitVec 1 := Scalar.cmpi .slt v106 c0_i32_67
  let c0_i32_68 : BitVec 32 := 0#32
  let v109 : BitVec 1 := Scalar.cmpi .slt v105 c0_i32_68
  let v110 : BitVec 1 := Scalar.xori v108 v109
  let c0_i32_66 : BitVec 32 := 0#32
  let v107 : BitVec 1 := Scalar.cmpi .ne v106 c0_i32_66
  let v111 : BitVec 1 := Scalar.andi v110 v107
  let v112 : BitVec 32 := Scalar.addi v106 v105
  let v113 : BitVec 32 := Scalar.select v111 v112 v106
  v113.toNat
def k0_dev11 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v114 : BitVec 32 := Scalar.addi v2 c11_i32
  let c32_i32_70 : BitVec 32 := 32#32
  let c0_i32_71 : BitVec 32 := 0#32
  let v115 : BitVec 1 := Scalar.cmpi .eq c32_i32_70 c0_i32_71
  let c1_i32_72 : BitVec 32 := 1#32
  let v116 : BitVec 32 := Scalar.select v115 c1_i32_72 c32_i32_70
  let v117 : BitVec 32 := Scalar.remsi v114 v116
  let c0_i32_74 : BitVec 32 := 0#32
  let v119 : BitVec 1 := Scalar.cmpi .slt v117 c0_i32_74
  let c0_i32_75 : BitVec 32 := 0#32
  let v120 : BitVec 1 := Scalar.cmpi .slt v116 c0_i32_75
  let v121 : BitVec 1 := Scalar.xori v119 v120
  let c0_i32_73 : BitVec 32 := 0#32
  let v118 : BitVec 1 := Scalar.cmpi .ne v117 c0_i32_73
  let v122 : BitVec 1 := Scalar.andi v121 v118
  let v123 : BitVec 32 := Scalar.addi v117 v116
  let v124 : BitVec 32 := Scalar.select v122 v123 v117
  v124.toNat
def k0_dev12 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v125 : BitVec 32 := Scalar.addi v2 c12_i32
  let c32_i32_77 : BitVec 32 := 32#32
  let c0_i32_78 : BitVec 32 := 0#32
  let v126 : BitVec 1 := Scalar.cmpi .eq c32_i32_77 c0_i32_78
  let c1_i32_79 : BitVec 32 := 1#32
  let v127 : BitVec 32 := Scalar.select v126 c1_i32_79 c32_i32_77
  let v128 : BitVec 32 := Scalar.remsi v125 v127
  let c0_i32_81 : BitVec 32 := 0#32
  let v130 : BitVec 1 := Scalar.cmpi .slt v128 c0_i32_81
  let c0_i32_82 : BitVec 32 := 0#32
  let v131 : BitVec 1 := Scalar.cmpi .slt v127 c0_i32_82
  let v132 : BitVec 1 := Scalar.xori v130 v131
  let c0_i32_80 : BitVec 32 := 0#32
  let v129 : BitVec 1 := Scalar.cmpi .ne v128 c0_i32_80
  let v133 : BitVec 1 := Scalar.andi v132 v129
  let v134 : BitVec 32 := Scalar.addi v128 v127
  let v135 : BitVec 32 := Scalar.select v133 v134 v128
  v135.toNat
def k0_dev13 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v136 : BitVec 32 := Scalar.addi v2 c13_i32
  let c32_i32_84 : BitVec 32 := 32#32
  let c0_i32_85 : BitVec 32 := 0#32
  let v137 : BitVec 1 := Scalar.cmpi .eq c32_i32_84 c0_i32_85
  let c1_i32_86 : BitVec 32 := 1#32
  let v138 : BitVec 32 := Scalar.select v137 c1_i32_86 c32_i32_84
  let v139 : BitVec 32 := Scalar.remsi v136 v138
  let c0_i32_88 : BitVec 32 := 0#32
  let v141 : BitVec 1 := Scalar.cmpi .slt v139 c0_i32_88
  let c0_i32_89 : BitVec 32 := 0#32
  let v142 : BitVec 1 := Scalar.cmpi .slt v138 c0_i32_89
  let v143 : BitVec 1 := Scalar.xori v141 v142
  let c0_i32_87 : BitVec 32 := 0#32
  let v140 : BitVec 1 := Scalar.cmpi .ne v139 c0_i32_87
  let v144 : BitVec 1 := Scalar.andi v143 v140
  let v145 : BitVec 32 := Scalar.addi v139 v138
  let v146 : BitVec 32 := Scalar.select v144 v145 v139
  v146.toNat
def k0_dev14 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v147 : BitVec 32 := Scalar.addi v2 c14_i32
  let c32_i32_91 : BitVec 32 := 32#32
  let c0_i32_92 : BitVec 32 := 0#32
  let v148 : BitVec 1 := Scalar.cmpi .eq c32_i32_91 c0_i32_92
  let c1_i32_93 : BitVec 32 := 1#32
  let v149 : BitVec 32 := Scalar.select v148 c1_i32_93 c32_i32_91
  let v150 : BitVec 32 := Scalar.remsi v147 v149
  let c0_i32_95 : BitVec 32 := 0#32
  let v152 : BitVec 1 := Scalar.cmpi .slt v150 c0_i32_95
  let c0_i32_96 : BitVec 32 := 0#32
  let v153 : BitVec 1 := Scalar.cmpi .slt v149 c0_i32_96
  let v154 : BitVec 1 := Scalar.xori v152 v153
  let c0_i32_94 : BitVec 32 := 0#32
  let v151 : BitVec 1 := Scalar.cmpi .ne v150 c0_i32_94
  let v155 : BitVec 1 := Scalar.andi v154 v151
  let v156 : BitVec 32 := Scalar.addi v150 v149
  let v157 : BitVec 32 := Scalar.select v155 v156 v150
  v157.toNat
def k0_dev15 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v158 : BitVec 32 := Scalar.addi v2 c15_i32
  let c32_i32_98 : BitVec 32 := 32#32
  let c0_i32_99 : BitVec 32 := 0#32
  let v159 : BitVec 1 := Scalar.cmpi .eq c32_i32_98 c0_i32_99
  let c1_i32_100 : BitVec 32 := 1#32
  let v160 : BitVec 32 := Scalar.select v159 c1_i32_100 c32_i32_98
  let v161 : BitVec 32 := Scalar.remsi v158 v160
  let c0_i32_102 : BitVec 32 := 0#32
  let v163 : BitVec 1 := Scalar.cmpi .slt v161 c0_i32_102
  let c0_i32_103 : BitVec 32 := 0#32
  let v164 : BitVec 1 := Scalar.cmpi .slt v160 c0_i32_103
  let v165 : BitVec 1 := Scalar.xori v163 v164
  let c0_i32_101 : BitVec 32 := 0#32
  let v162 : BitVec 1 := Scalar.cmpi .ne v161 c0_i32_101
  let v166 : BitVec 1 := Scalar.andi v165 v162
  let v167 : BitVec 32 := Scalar.addi v161 v160
  let v168 : BitVec 32 := Scalar.select v166 v167 v161
  v168.toNat
def k0_dev16 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v169 : BitVec 32 := Scalar.addi v2 c16_i32
  let c32_i32_105 : BitVec 32 := 32#32
  let c0_i32_106 : BitVec 32 := 0#32
  let v170 : BitVec 1 := Scalar.cmpi .eq c32_i32_105 c0_i32_106
  let c1_i32_107 : BitVec 32 := 1#32
  let v171 : BitVec 32 := Scalar.select v170 c1_i32_107 c32_i32_105
  let v172 : BitVec 32 := Scalar.remsi v169 v171
  let c0_i32_109 : BitVec 32 := 0#32
  let v174 : BitVec 1 := Scalar.cmpi .slt v172 c0_i32_109
  let c0_i32_110 : BitVec 32 := 0#32
  let v175 : BitVec 1 := Scalar.cmpi .slt v171 c0_i32_110
  let v176 : BitVec 1 := Scalar.xori v174 v175
  let c0_i32_108 : BitVec 32 := 0#32
  let v173 : BitVec 1 := Scalar.cmpi .ne v172 c0_i32_108
  let v177 : BitVec 1 := Scalar.andi v176 v173
  let v178 : BitVec 32 := Scalar.addi v172 v171
  let v179 : BitVec 32 := Scalar.select v177 v178 v172
  v179.toNat
def k0_dev17 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v180 : BitVec 32 := Scalar.addi v2 c17_i32
  let c32_i32_112 : BitVec 32 := 32#32
  let c0_i32_113 : BitVec 32 := 0#32
  let v181 : BitVec 1 := Scalar.cmpi .eq c32_i32_112 c0_i32_113
  let c1_i32_114 : BitVec 32 := 1#32
  let v182 : BitVec 32 := Scalar.select v181 c1_i32_114 c32_i32_112
  let v183 : BitVec 32 := Scalar.remsi v180 v182
  let c0_i32_116 : BitVec 32 := 0#32
  let v185 : BitVec 1 := Scalar.cmpi .slt v183 c0_i32_116
  let c0_i32_117 : BitVec 32 := 0#32
  let v186 : BitVec 1 := Scalar.cmpi .slt v182 c0_i32_117
  let v187 : BitVec 1 := Scalar.xori v185 v186
  let c0_i32_115 : BitVec 32 := 0#32
  let v184 : BitVec 1 := Scalar.cmpi .ne v183 c0_i32_115
  let v188 : BitVec 1 := Scalar.andi v187 v184
  let v189 : BitVec 32 := Scalar.addi v183 v182
  let v190 : BitVec 32 := Scalar.select v188 v189 v183
  v190.toNat
def k0_dev18 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v191 : BitVec 32 := Scalar.addi v2 c18_i32
  let c32_i32_119 : BitVec 32 := 32#32
  let c0_i32_120 : BitVec 32 := 0#32
  let v192 : BitVec 1 := Scalar.cmpi .eq c32_i32_119 c0_i32_120
  let c1_i32_121 : BitVec 32 := 1#32
  let v193 : BitVec 32 := Scalar.select v192 c1_i32_121 c32_i32_119
  let v194 : BitVec 32 := Scalar.remsi v191 v193
  let c0_i32_123 : BitVec 32 := 0#32
  let v196 : BitVec 1 := Scalar.cmpi .slt v194 c0_i32_123
  let c0_i32_124 : BitVec 32 := 0#32
  let v197 : BitVec 1 := Scalar.cmpi .slt v193 c0_i32_124
  let v198 : BitVec 1 := Scalar.xori v196 v197
  let c0_i32_122 : BitVec 32 := 0#32
  let v195 : BitVec 1 := Scalar.cmpi .ne v194 c0_i32_122
  let v199 : BitVec 1 := Scalar.andi v198 v195
  let v200 : BitVec 32 := Scalar.addi v194 v193
  let v201 : BitVec 32 := Scalar.select v199 v200 v194
  v201.toNat
def k0_dev19 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v202 : BitVec 32 := Scalar.addi v2 c19_i32
  let c32_i32_126 : BitVec 32 := 32#32
  let c0_i32_127 : BitVec 32 := 0#32
  let v203 : BitVec 1 := Scalar.cmpi .eq c32_i32_126 c0_i32_127
  let c1_i32_128 : BitVec 32 := 1#32
  let v204 : BitVec 32 := Scalar.select v203 c1_i32_128 c32_i32_126
  let v205 : BitVec 32 := Scalar.remsi v202 v204
  let c0_i32_130 : BitVec 32 := 0#32
  let v207 : BitVec 1 := Scalar.cmpi .slt v205 c0_i32_130
  let c0_i32_131 : BitVec 32 := 0#32
  let v208 : BitVec 1 := Scalar.cmpi .slt v204 c0_i32_131
  let v209 : BitVec 1 := Scalar.xori v207 v208
  let c0_i32_129 : BitVec 32 := 0#32
  let v206 : BitVec 1 := Scalar.cmpi .ne v205 c0_i32_129
  let v210 : BitVec 1 := Scalar.andi v209 v206
  let v211 : BitVec 32 := Scalar.addi v205 v204
  let v212 : BitVec 32 := Scalar.select v210 v211 v205
  v212.toNat
def k0_dev20 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v213 : BitVec 32 := Scalar.addi v2 c20_i32
  let c32_i32_133 : BitVec 32 := 32#32
  let c0_i32_134 : BitVec 32 := 0#32
  let v214 : BitVec 1 := Scalar.cmpi .eq c32_i32_133 c0_i32_134
  let c1_i32_135 : BitVec 32 := 1#32
  let v215 : BitVec 32 := Scalar.select v214 c1_i32_135 c32_i32_133
  let v216 : BitVec 32 := Scalar.remsi v213 v215
  let c0_i32_137 : BitVec 32 := 0#32
  let v218 : BitVec 1 := Scalar.cmpi .slt v216 c0_i32_137
  let c0_i32_138 : BitVec 32 := 0#32
  let v219 : BitVec 1 := Scalar.cmpi .slt v215 c0_i32_138
  let v220 : BitVec 1 := Scalar.xori v218 v219
  let c0_i32_136 : BitVec 32 := 0#32
  let v217 : BitVec 1 := Scalar.cmpi .ne v216 c0_i32_136
  let v221 : BitVec 1 := Scalar.andi v220 v217
  let v222 : BitVec 32 := Scalar.addi v216 v215
  let v223 : BitVec 32 := Scalar.select v221 v222 v216
  v223.toNat
def k0_dev21 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v224 : BitVec 32 := Scalar.addi v2 c21_i32
  let c32_i32_140 : BitVec 32 := 32#32
  let c0_i32_141 : BitVec 32 := 0#32
  let v225 : BitVec 1 := Scalar.cmpi .eq c32_i32_140 c0_i32_141
  let c1_i32_142 : BitVec 32 := 1#32
  let v226 : BitVec 32 := Scalar.select v225 c1_i32_142 c32_i32_140
  let v227 : BitVec 32 := Scalar.remsi v224 v226
  let c0_i32_144 : BitVec 32 := 0#32
  let v229 : BitVec 1 := Scalar.cmpi .slt v227 c0_i32_144
  let c0_i32_145 : BitVec 32 := 0#32
  let v230 : BitVec 1 := Scalar.cmpi .slt v226 c0_i32_145
  let v231 : BitVec 1 := Scalar.xori v229 v230
  let c0_i32_143 : BitVec 32 := 0#32
  let v228 : BitVec 1 := Scalar.cmpi .ne v227 c0_i32_143
  let v232 : BitVec 1 := Scalar.andi v231 v228
  let v233 : BitVec 32 := Scalar.addi v227 v226
  let v234 : BitVec 32 := Scalar.select v232 v233 v227
  v234.toNat
def k0_dev22 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v235 : BitVec 32 := Scalar.addi v2 c22_i32
  let c32_i32_147 : BitVec 32 := 32#32
  let c0_i32_148 : BitVec 32 := 0#32
  let v236 : BitVec 1 := Scalar.cmpi .eq c32_i32_147 c0_i32_148
  let c1_i32_149 : BitVec 32 := 1#32
  let v237 : BitVec 32 := Scalar.select v236 c1_i32_149 c32_i32_147
  let v238 : BitVec 32 := Scalar.remsi v235 v237
  let c0_i32_151 : BitVec 32 := 0#32
  let v240 : BitVec 1 := Scalar.cmpi .slt v238 c0_i32_151
  let c0_i32_152 : BitVec 32 := 0#32
  let v241 : BitVec 1 := Scalar.cmpi .slt v237 c0_i32_152
  let v242 : BitVec 1 := Scalar.xori v240 v241
  let c0_i32_150 : BitVec 32 := 0#32
  let v239 : BitVec 1 := Scalar.cmpi .ne v238 c0_i32_150
  let v243 : BitVec 1 := Scalar.andi v242 v239
  let v244 : BitVec 32 := Scalar.addi v238 v237
  let v245 : BitVec 32 := Scalar.select v243 v244 v238
  v245.toNat
def k0_dev23 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v246 : BitVec 32 := Scalar.addi v2 c23_i32
  let c32_i32_154 : BitVec 32 := 32#32
  let c0_i32_155 : BitVec 32 := 0#32
  let v247 : BitVec 1 := Scalar.cmpi .eq c32_i32_154 c0_i32_155
  let c1_i32_156 : BitVec 32 := 1#32
  let v248 : BitVec 32 := Scalar.select v247 c1_i32_156 c32_i32_154
  let v249 : BitVec 32 := Scalar.remsi v246 v248
  let c0_i32_158 : BitVec 32 := 0#32
  let v251 : BitVec 1 := Scalar.cmpi .slt v249 c0_i32_158
  let c0_i32_159 : BitVec 32 := 0#32
  let v252 : BitVec 1 := Scalar.cmpi .slt v248 c0_i32_159
  let v253 : BitVec 1 := Scalar.xori v251 v252
  let c0_i32_157 : BitVec 32 := 0#32
  let v250 : BitVec 1 := Scalar.cmpi .ne v249 c0_i32_157
  let v254 : BitVec 1 := Scalar.andi v253 v250
  let v255 : BitVec 32 := Scalar.addi v249 v248
  let v256 : BitVec 32 := Scalar.select v254 v255 v249
  v256.toNat
def k0_dev24 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v257 : BitVec 32 := Scalar.addi v2 c24_i32
  let c32_i32_161 : BitVec 32 := 32#32
  let c0_i32_162 : BitVec 32 := 0#32
  let v258 : BitVec 1 := Scalar.cmpi .eq c32_i32_161 c0_i32_162
  let c1_i32_163 : BitVec 32 := 1#32
  let v259 : BitVec 32 := Scalar.select v258 c1_i32_163 c32_i32_161
  let v260 : BitVec 32 := Scalar.remsi v257 v259
  let c0_i32_165 : BitVec 32 := 0#32
  let v262 : BitVec 1 := Scalar.cmpi .slt v260 c0_i32_165
  let c0_i32_166 : BitVec 32 := 0#32
  let v263 : BitVec 1 := Scalar.cmpi .slt v259 c0_i32_166
  let v264 : BitVec 1 := Scalar.xori v262 v263
  let c0_i32_164 : BitVec 32 := 0#32
  let v261 : BitVec 1 := Scalar.cmpi .ne v260 c0_i32_164
  let v265 : BitVec 1 := Scalar.andi v264 v261
  let v266 : BitVec 32 := Scalar.addi v260 v259
  let v267 : BitVec 32 := Scalar.select v265 v266 v260
  v267.toNat
def k0_dev25 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v268 : BitVec 32 := Scalar.addi v2 c25_i32
  let c32_i32_168 : BitVec 32 := 32#32
  let c0_i32_169 : BitVec 32 := 0#32
  let v269 : BitVec 1 := Scalar.cmpi .eq c32_i32_168 c0_i32_169
  let c1_i32_170 : BitVec 32 := 1#32
  let v270 : BitVec 32 := Scalar.select v269 c1_i32_170 c32_i32_168
  let v271 : BitVec 32 := Scalar.remsi v268 v270
  let c0_i32_172 : BitVec 32 := 0#32
  let v273 : BitVec 1 := Scalar.cmpi .slt v271 c0_i32_172
  let c0_i32_173 : BitVec 32 := 0#32
  let v274 : BitVec 1 := Scalar.cmpi .slt v270 c0_i32_173
  let v275 : BitVec 1 := Scalar.xori v273 v274
  let c0_i32_171 : BitVec 32 := 0#32
  let v272 : BitVec 1 := Scalar.cmpi .ne v271 c0_i32_171
  let v276 : BitVec 1 := Scalar.andi v275 v272
  let v277 : BitVec 32 := Scalar.addi v271 v270
  let v278 : BitVec 32 := Scalar.select v276 v277 v271
  v278.toNat
def k0_dev26 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v279 : BitVec 32 := Scalar.addi v2 c26_i32
  let c32_i32_175 : BitVec 32 := 32#32
  let c0_i32_176 : BitVec 32 := 0#32
  let v280 : BitVec 1 := Scalar.cmpi .eq c32_i32_175 c0_i32_176
  let c1_i32_177 : BitVec 32 := 1#32
  let v281 : BitVec 32 := Scalar.select v280 c1_i32_177 c32_i32_175
  let v282 : BitVec 32 := Scalar.remsi v279 v281
  let c0_i32_179 : BitVec 32 := 0#32
  let v284 : BitVec 1 := Scalar.cmpi .slt v282 c0_i32_179
  let c0_i32_180 : BitVec 32 := 0#32
  let v285 : BitVec 1 := Scalar.cmpi .slt v281 c0_i32_180
  let v286 : BitVec 1 := Scalar.xori v284 v285
  let c0_i32_178 : BitVec 32 := 0#32
  let v283 : BitVec 1 := Scalar.cmpi .ne v282 c0_i32_178
  let v287 : BitVec 1 := Scalar.andi v286 v283
  let v288 : BitVec 32 := Scalar.addi v282 v281
  let v289 : BitVec 32 := Scalar.select v287 v288 v282
  v289.toNat
def k0_dev27 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v290 : BitVec 32 := Scalar.addi v2 c27_i32
  let c32_i32_182 : BitVec 32 := 32#32
  let c0_i32_183 : BitVec 32 := 0#32
  let v291 : BitVec 1 := Scalar.cmpi .eq c32_i32_182 c0_i32_183
  let c1_i32_184 : BitVec 32 := 1#32
  let v292 : BitVec 32 := Scalar.select v291 c1_i32_184 c32_i32_182
  let v293 : BitVec 32 := Scalar.remsi v290 v292
  let c0_i32_186 : BitVec 32 := 0#32
  let v295 : BitVec 1 := Scalar.cmpi .slt v293 c0_i32_186
  let c0_i32_187 : BitVec 32 := 0#32
  let v296 : BitVec 1 := Scalar.cmpi .slt v292 c0_i32_187
  let v297 : BitVec 1 := Scalar.xori v295 v296
  let c0_i32_185 : BitVec 32 := 0#32
  let v294 : BitVec 1 := Scalar.cmpi .ne v293 c0_i32_185
  let v298 : BitVec 1 := Scalar.andi v297 v294
  let v299 : BitVec 32 := Scalar.addi v293 v292
  let v300 : BitVec 32 := Scalar.select v298 v299 v293
  v300.toNat
def k0_dev28 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v301 : BitVec 32 := Scalar.addi v2 c28_i32
  let c32_i32_189 : BitVec 32 := 32#32
  let c0_i32_190 : BitVec 32 := 0#32
  let v302 : BitVec 1 := Scalar.cmpi .eq c32_i32_189 c0_i32_190
  let c1_i32_191 : BitVec 32 := 1#32
  let v303 : BitVec 32 := Scalar.select v302 c1_i32_191 c32_i32_189
  let v304 : BitVec 32 := Scalar.remsi v301 v303
  let c0_i32_193 : BitVec 32 := 0#32
  let v306 : BitVec 1 := Scalar.cmpi .slt v304 c0_i32_193
  let c0_i32_194 : BitVec 32 := 0#32
  let v307 : BitVec 1 := Scalar.cmpi .slt v303 c0_i32_194
  let v308 : BitVec 1 := Scalar.xori v306 v307
  let c0_i32_192 : BitVec 32 := 0#32
  let v305 : BitVec 1 := Scalar.cmpi .ne v304 c0_i32_192
  let v309 : BitVec 1 := Scalar.andi v308 v305
  let v310 : BitVec 32 := Scalar.addi v304 v303
  let v311 : BitVec 32 := Scalar.select v309 v310 v304
  v311.toNat
def k0_dev29 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v312 : BitVec 32 := Scalar.addi v2 c29_i32
  let c32_i32_196 : BitVec 32 := 32#32
  let c0_i32_197 : BitVec 32 := 0#32
  let v313 : BitVec 1 := Scalar.cmpi .eq c32_i32_196 c0_i32_197
  let c1_i32_198 : BitVec 32 := 1#32
  let v314 : BitVec 32 := Scalar.select v313 c1_i32_198 c32_i32_196
  let v315 : BitVec 32 := Scalar.remsi v312 v314
  let c0_i32_200 : BitVec 32 := 0#32
  let v317 : BitVec 1 := Scalar.cmpi .slt v315 c0_i32_200
  let c0_i32_201 : BitVec 32 := 0#32
  let v318 : BitVec 1 := Scalar.cmpi .slt v314 c0_i32_201
  let v319 : BitVec 1 := Scalar.xori v317 v318
  let c0_i32_199 : BitVec 32 := 0#32
  let v316 : BitVec 1 := Scalar.cmpi .ne v315 c0_i32_199
  let v320 : BitVec 1 := Scalar.andi v319 v316
  let v321 : BitVec 32 := Scalar.addi v315 v314
  let v322 : BitVec 32 := Scalar.select v320 v321 v315
  v322.toNat
def k0_dev30 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v323 : BitVec 32 := Scalar.addi v2 c30_i32
  let c32_i32_203 : BitVec 32 := 32#32
  let c0_i32_204 : BitVec 32 := 0#32
  let v324 : BitVec 1 := Scalar.cmpi .eq c32_i32_203 c0_i32_204
  let c1_i32_205 : BitVec 32 := 1#32
  let v325 : BitVec 32 := Scalar.select v324 c1_i32_205 c32_i32_203
  let v326 : BitVec 32 := Scalar.remsi v323 v325
  let c0_i32_207 : BitVec 32 := 0#32
  let v328 : BitVec 1 := Scalar.cmpi .slt v326 c0_i32_207
  let c0_i32_208 : BitVec 32 := 0#32
  let v329 : BitVec 1 := Scalar.cmpi .slt v325 c0_i32_208
  let v330 : BitVec 1 := Scalar.xori v328 v329
  let c0_i32_206 : BitVec 32 := 0#32
  let v327 : BitVec 1 := Scalar.cmpi .ne v326 c0_i32_206
  let v331 : BitVec 1 := Scalar.andi v330 v327
  let v332 : BitVec 32 := Scalar.addi v326 v325
  let v333 : BitVec 32 := Scalar.select v331 v332 v326
  v333.toNat
def k0_dev31 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v334 : BitVec 32 := Scalar.addi v2 c31_i32
  let c32_i32_210 : BitVec 32 := 32#32
  let c0_i32_211 : BitVec 32 := 0#32
  let v335 : BitVec 1 := Scalar.cmpi .eq c32_i32_210 c0_i32_211
  let c1_i32_212 : BitVec 32 := 1#32
  let v336 : BitVec 32 := Scalar.select v335 c1_i32_212 c32_i32_210
  let v337 : BitVec 32 := Scalar.remsi v334 v336
  let c0_i32_214 : BitVec 32 := 0#32
  let v339 : BitVec 1 := Scalar.cmpi .slt v337 c0_i32_214
  let c0_i32_215 : BitVec 32 := 0#32
  let v340 : BitVec 1 := Scalar.cmpi .slt v336 c0_i32_215
  let v341 : BitVec 1 := Scalar.xori v339 v340
  let c0_i32_213 : BitVec 32 := 0#32
  let v338 : BitVec 1 := Scalar.cmpi .ne v337 c0_i32_213
  let v342 : BitVec 1 := Scalar.andi v341 v338
  let v343 : BitVec 32 := Scalar.addi v337 v336
  let v344 : BitVec 32 := Scalar.select v342 v343 v337
  v344.toNat
def k0_off1 (d0 : Dev nD) (c1_i32_218 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v345 : BitVec 32 := Scalar.addi v2 c1_i32_218
  let c32_i32_219 : BitVec 32 := 32#32
  let c0_i32_220 : BitVec 32 := 0#32
  let v346 : BitVec 1 := Scalar.cmpi .eq c32_i32_219 c0_i32_220
  let c1_i32_221 : BitVec 32 := 1#32
  let v347 : BitVec 32 := Scalar.select v346 c1_i32_221 c32_i32_219
  let v348 : BitVec 32 := Scalar.remsi v345 v347
  let c0_i32_223 : BitVec 32 := 0#32
  let v350 : BitVec 1 := Scalar.cmpi .slt v348 c0_i32_223
  let c0_i32_224 : BitVec 32 := 0#32
  let v351 : BitVec 1 := Scalar.cmpi .slt v347 c0_i32_224
  let v352 : BitVec 1 := Scalar.xori v350 v351
  let c0_i32_222 : BitVec 32 := 0#32
  let v349 : BitVec 1 := Scalar.cmpi .ne v348 c0_i32_222
  let v353 : BitVec 1 := Scalar.andi v352 v349
  let v354 : BitVec 32 := Scalar.addi v348 v347
  let v355 : BitVec 32 := Scalar.select v353 v354 v348
  ![v355.toNat]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_225 : BitVec 32 := 256#32
  let v357 : BitVec 32 := Scalar.muli v2 c256_i32_225
  let c0_i32_226 : BitVec 32 := 0#32
  ![v357.toNat, 0]
def k0_off4 (d0 : Dev nD) (c1_i32_218 : BitVec 32) : Fin 2 → Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v345 : BitVec 32 := Scalar.addi v2 c1_i32_218
  let c32_i32_219 : BitVec 32 := 32#32
  let c0_i32_220 : BitVec 32 := 0#32
  let v346 : BitVec 1 := Scalar.cmpi .eq c32_i32_219 c0_i32_220
  let c1_i32_221 : BitVec 32 := 1#32
  let v347 : BitVec 32 := Scalar.select v346 c1_i32_221 c32_i32_219
  let v348 : BitVec 32 := Scalar.remsi v345 v347
  let c0_i32_223 : BitVec 32 := 0#32
  let v350 : BitVec 1 := Scalar.cmpi .slt v348 c0_i32_223
  let c0_i32_224 : BitVec 32 := 0#32
  let v351 : BitVec 1 := Scalar.cmpi .slt v347 c0_i32_224
  let v352 : BitVec 1 := Scalar.xori v350 v351
  let c0_i32_222 : BitVec 32 := 0#32
  let v349 : BitVec 1 := Scalar.cmpi .ne v348 c0_i32_222
  let v353 : BitVec 1 := Scalar.andi v352 v349
  let v354 : BitVec 32 := Scalar.addi v348 v347
  let v355 : BitVec 32 := Scalar.select v353 v354 v348
  let c256_i32 : BitVec 32 := 256#32
  let v356 : BitVec 32 := Scalar.muli v355 c256_i32
  ![0, v356.toNat]
def k0_dev32 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_218 : BitVec 32 := 1#32
  let v345 : BitVec 32 := Scalar.addi v2 c1_i32_218
  let c32_i32_219 : BitVec 32 := 32#32
  let c0_i32_220 : BitVec 32 := 0#32
  let v346 : BitVec 1 := Scalar.cmpi .eq c32_i32_219 c0_i32_220
  let c1_i32_221 : BitVec 32 := 1#32
  let v347 : BitVec 32 := Scalar.select v346 c1_i32_221 c32_i32_219
  let v348 : BitVec 32 := Scalar.remsi v345 v347
  let c0_i32_223 : BitVec 32 := 0#32
  let v350 : BitVec 1 := Scalar.cmpi .slt v348 c0_i32_223
  let c0_i32_224 : BitVec 32 := 0#32
  let v351 : BitVec 1 := Scalar.cmpi .slt v347 c0_i32_224
  let v352 : BitVec 1 := Scalar.xori v350 v351
  let c0_i32_222 : BitVec 32 := 0#32
  let v349 : BitVec 1 := Scalar.cmpi .ne v348 c0_i32_222
  let v353 : BitVec 1 := Scalar.andi v352 v349
  let v354 : BitVec 32 := Scalar.addi v348 v347
  let v355 : BitVec 32 := Scalar.select v353 v354 v348
  v355.toNat
def k0_dev33 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_228 : BitVec 32 := 2#32
  let v364 : BitVec 32 := Scalar.addi v2 c2_i32_228
  let c32_i32_229 : BitVec 32 := 32#32
  let c0_i32_230 : BitVec 32 := 0#32
  let v365 : BitVec 1 := Scalar.cmpi .eq c32_i32_229 c0_i32_230
  let c1_i32_231 : BitVec 32 := 1#32
  let v366 : BitVec 32 := Scalar.select v365 c1_i32_231 c32_i32_229
  let v367 : BitVec 32 := Scalar.remsi v364 v366
  let c0_i32_233 : BitVec 32 := 0#32
  let v369 : BitVec 1 := Scalar.cmpi .slt v367 c0_i32_233
  let c0_i32_234 : BitVec 32 := 0#32
  let v370 : BitVec 1 := Scalar.cmpi .slt v366 c0_i32_234
  let v371 : BitVec 1 := Scalar.xori v369 v370
  let c0_i32_232 : BitVec 32 := 0#32
  let v368 : BitVec 1 := Scalar.cmpi .ne v367 c0_i32_232
  let v372 : BitVec 1 := Scalar.andi v371 v368
  let v373 : BitVec 32 := Scalar.addi v367 v366
  let v374 : BitVec 32 := Scalar.select v372 v373 v367
  v374.toNat
def k0_dev34 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_239 : BitVec 32 := 3#32
  let v383 : BitVec 32 := Scalar.addi v2 c3_i32_239
  let c32_i32_240 : BitVec 32 := 32#32
  let c0_i32_241 : BitVec 32 := 0#32
  let v384 : BitVec 1 := Scalar.cmpi .eq c32_i32_240 c0_i32_241
  let c1_i32_242 : BitVec 32 := 1#32
  let v385 : BitVec 32 := Scalar.select v384 c1_i32_242 c32_i32_240
  let v386 : BitVec 32 := Scalar.remsi v383 v385
  let c0_i32_244 : BitVec 32 := 0#32
  let v388 : BitVec 1 := Scalar.cmpi .slt v386 c0_i32_244
  let c0_i32_245 : BitVec 32 := 0#32
  let v389 : BitVec 1 := Scalar.cmpi .slt v385 c0_i32_245
  let v390 : BitVec 1 := Scalar.xori v388 v389
  let c0_i32_243 : BitVec 32 := 0#32
  let v387 : BitVec 1 := Scalar.cmpi .ne v386 c0_i32_243
  let v391 : BitVec 1 := Scalar.andi v390 v387
  let v392 : BitVec 32 := Scalar.addi v386 v385
  let v393 : BitVec 32 := Scalar.select v391 v392 v386
  v393.toNat
def k0_dev35 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_250 : BitVec 32 := 4#32
  let v402 : BitVec 32 := Scalar.addi v2 c4_i32_250
  let c32_i32_251 : BitVec 32 := 32#32
  let c0_i32_252 : BitVec 32 := 0#32
  let v403 : BitVec 1 := Scalar.cmpi .eq c32_i32_251 c0_i32_252
  let c1_i32_253 : BitVec 32 := 1#32
  let v404 : BitVec 32 := Scalar.select v403 c1_i32_253 c32_i32_251
  let v405 : BitVec 32 := Scalar.remsi v402 v404
  let c0_i32_255 : BitVec 32 := 0#32
  let v407 : BitVec 1 := Scalar.cmpi .slt v405 c0_i32_255
  let c0_i32_256 : BitVec 32 := 0#32
  let v408 : BitVec 1 := Scalar.cmpi .slt v404 c0_i32_256
  let v409 : BitVec 1 := Scalar.xori v407 v408
  let c0_i32_254 : BitVec 32 := 0#32
  let v406 : BitVec 1 := Scalar.cmpi .ne v405 c0_i32_254
  let v410 : BitVec 1 := Scalar.andi v409 v406
  let v411 : BitVec 32 := Scalar.addi v405 v404
  let v412 : BitVec 32 := Scalar.select v410 v411 v405
  v412.toNat
def k0_dev36 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_261 : BitVec 32 := 5#32
  let v421 : BitVec 32 := Scalar.addi v2 c5_i32_261
  let c32_i32_262 : BitVec 32 := 32#32
  let c0_i32_263 : BitVec 32 := 0#32
  let v422 : BitVec 1 := Scalar.cmpi .eq c32_i32_262 c0_i32_263
  let c1_i32_264 : BitVec 32 := 1#32
  let v423 : BitVec 32 := Scalar.select v422 c1_i32_264 c32_i32_262
  let v424 : BitVec 32 := Scalar.remsi v421 v423
  let c0_i32_266 : BitVec 32 := 0#32
  let v426 : BitVec 1 := Scalar.cmpi .slt v424 c0_i32_266
  let c0_i32_267 : BitVec 32 := 0#32
  let v427 : BitVec 1 := Scalar.cmpi .slt v423 c0_i32_267
  let v428 : BitVec 1 := Scalar.xori v426 v427
  let c0_i32_265 : BitVec 32 := 0#32
  let v425 : BitVec 1 := Scalar.cmpi .ne v424 c0_i32_265
  let v429 : BitVec 1 := Scalar.andi v428 v425
  let v430 : BitVec 32 := Scalar.addi v424 v423
  let v431 : BitVec 32 := Scalar.select v429 v430 v424
  v431.toNat
def k0_dev37 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_272 : BitVec 32 := 6#32
  let v440 : BitVec 32 := Scalar.addi v2 c6_i32_272
  let c32_i32_273 : BitVec 32 := 32#32
  let c0_i32_274 : BitVec 32 := 0#32
  let v441 : BitVec 1 := Scalar.cmpi .eq c32_i32_273 c0_i32_274
  let c1_i32_275 : BitVec 32 := 1#32
  let v442 : BitVec 32 := Scalar.select v441 c1_i32_275 c32_i32_273
  let v443 : BitVec 32 := Scalar.remsi v440 v442
  let c0_i32_277 : BitVec 32 := 0#32
  let v445 : BitVec 1 := Scalar.cmpi .slt v443 c0_i32_277
  let c0_i32_278 : BitVec 32 := 0#32
  let v446 : BitVec 1 := Scalar.cmpi .slt v442 c0_i32_278
  let v447 : BitVec 1 := Scalar.xori v445 v446
  let c0_i32_276 : BitVec 32 := 0#32
  let v444 : BitVec 1 := Scalar.cmpi .ne v443 c0_i32_276
  let v448 : BitVec 1 := Scalar.andi v447 v444
  let v449 : BitVec 32 := Scalar.addi v443 v442
  let v450 : BitVec 32 := Scalar.select v448 v449 v443
  v450.toNat
def k0_dev38 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_283 : BitVec 32 := 7#32
  let v459 : BitVec 32 := Scalar.addi v2 c7_i32_283
  let c32_i32_284 : BitVec 32 := 32#32
  let c0_i32_285 : BitVec 32 := 0#32
  let v460 : BitVec 1 := Scalar.cmpi .eq c32_i32_284 c0_i32_285
  let c1_i32_286 : BitVec 32 := 1#32
  let v461 : BitVec 32 := Scalar.select v460 c1_i32_286 c32_i32_284
  let v462 : BitVec 32 := Scalar.remsi v459 v461
  let c0_i32_288 : BitVec 32 := 0#32
  let v464 : BitVec 1 := Scalar.cmpi .slt v462 c0_i32_288
  let c0_i32_289 : BitVec 32 := 0#32
  let v465 : BitVec 1 := Scalar.cmpi .slt v461 c0_i32_289
  let v466 : BitVec 1 := Scalar.xori v464 v465
  let c0_i32_287 : BitVec 32 := 0#32
  let v463 : BitVec 1 := Scalar.cmpi .ne v462 c0_i32_287
  let v467 : BitVec 1 := Scalar.andi v466 v463
  let v468 : BitVec 32 := Scalar.addi v462 v461
  let v469 : BitVec 32 := Scalar.select v467 v468 v462
  v469.toNat
def k0_dev39 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_294 : BitVec 32 := 8#32
  let v478 : BitVec 32 := Scalar.addi v2 c8_i32_294
  let c32_i32_295 : BitVec 32 := 32#32
  let c0_i32_296 : BitVec 32 := 0#32
  let v479 : BitVec 1 := Scalar.cmpi .eq c32_i32_295 c0_i32_296
  let c1_i32_297 : BitVec 32 := 1#32
  let v480 : BitVec 32 := Scalar.select v479 c1_i32_297 c32_i32_295
  let v481 : BitVec 32 := Scalar.remsi v478 v480
  let c0_i32_299 : BitVec 32 := 0#32
  let v483 : BitVec 1 := Scalar.cmpi .slt v481 c0_i32_299
  let c0_i32_300 : BitVec 32 := 0#32
  let v484 : BitVec 1 := Scalar.cmpi .slt v480 c0_i32_300
  let v485 : BitVec 1 := Scalar.xori v483 v484
  let c0_i32_298 : BitVec 32 := 0#32
  let v482 : BitVec 1 := Scalar.cmpi .ne v481 c0_i32_298
  let v486 : BitVec 1 := Scalar.andi v485 v482
  let v487 : BitVec 32 := Scalar.addi v481 v480
  let v488 : BitVec 32 := Scalar.select v486 v487 v481
  v488.toNat
def k0_dev40 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_305 : BitVec 32 := 9#32
  let v497 : BitVec 32 := Scalar.addi v2 c9_i32_305
  let c32_i32_306 : BitVec 32 := 32#32
  let c0_i32_307 : BitVec 32 := 0#32
  let v498 : BitVec 1 := Scalar.cmpi .eq c32_i32_306 c0_i32_307
  let c1_i32_308 : BitVec 32 := 1#32
  let v499 : BitVec 32 := Scalar.select v498 c1_i32_308 c32_i32_306
  let v500 : BitVec 32 := Scalar.remsi v497 v499
  let c0_i32_310 : BitVec 32 := 0#32
  let v502 : BitVec 1 := Scalar.cmpi .slt v500 c0_i32_310
  let c0_i32_311 : BitVec 32 := 0#32
  let v503 : BitVec 1 := Scalar.cmpi .slt v499 c0_i32_311
  let v504 : BitVec 1 := Scalar.xori v502 v503
  let c0_i32_309 : BitVec 32 := 0#32
  let v501 : BitVec 1 := Scalar.cmpi .ne v500 c0_i32_309
  let v505 : BitVec 1 := Scalar.andi v504 v501
  let v506 : BitVec 32 := Scalar.addi v500 v499
  let v507 : BitVec 32 := Scalar.select v505 v506 v500
  v507.toNat
def k0_dev41 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_316 : BitVec 32 := 10#32
  let v516 : BitVec 32 := Scalar.addi v2 c10_i32_316
  let c32_i32_317 : BitVec 32 := 32#32
  let c0_i32_318 : BitVec 32 := 0#32
  let v517 : BitVec 1 := Scalar.cmpi .eq c32_i32_317 c0_i32_318
  let c1_i32_319 : BitVec 32 := 1#32
  let v518 : BitVec 32 := Scalar.select v517 c1_i32_319 c32_i32_317
  let v519 : BitVec 32 := Scalar.remsi v516 v518
  let c0_i32_321 : BitVec 32 := 0#32
  let v521 : BitVec 1 := Scalar.cmpi .slt v519 c0_i32_321
  let c0_i32_322 : BitVec 32 := 0#32
  let v522 : BitVec 1 := Scalar.cmpi .slt v518 c0_i32_322
  let v523 : BitVec 1 := Scalar.xori v521 v522
  let c0_i32_320 : BitVec 32 := 0#32
  let v520 : BitVec 1 := Scalar.cmpi .ne v519 c0_i32_320
  let v524 : BitVec 1 := Scalar.andi v523 v520
  let v525 : BitVec 32 := Scalar.addi v519 v518
  let v526 : BitVec 32 := Scalar.select v524 v525 v519
  v526.toNat
def k0_dev42 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_327 : BitVec 32 := 11#32
  let v535 : BitVec 32 := Scalar.addi v2 c11_i32_327
  let c32_i32_328 : BitVec 32 := 32#32
  let c0_i32_329 : BitVec 32 := 0#32
  let v536 : BitVec 1 := Scalar.cmpi .eq c32_i32_328 c0_i32_329
  let c1_i32_330 : BitVec 32 := 1#32
  let v537 : BitVec 32 := Scalar.select v536 c1_i32_330 c32_i32_328
  let v538 : BitVec 32 := Scalar.remsi v535 v537
  let c0_i32_332 : BitVec 32 := 0#32
  let v540 : BitVec 1 := Scalar.cmpi .slt v538 c0_i32_332
  let c0_i32_333 : BitVec 32 := 0#32
  let v541 : BitVec 1 := Scalar.cmpi .slt v537 c0_i32_333
  let v542 : BitVec 1 := Scalar.xori v540 v541
  let c0_i32_331 : BitVec 32 := 0#32
  let v539 : BitVec 1 := Scalar.cmpi .ne v538 c0_i32_331
  let v543 : BitVec 1 := Scalar.andi v542 v539
  let v544 : BitVec 32 := Scalar.addi v538 v537
  let v545 : BitVec 32 := Scalar.select v543 v544 v538
  v545.toNat
def k0_dev43 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_338 : BitVec 32 := 12#32
  let v554 : BitVec 32 := Scalar.addi v2 c12_i32_338
  let c32_i32_339 : BitVec 32 := 32#32
  let c0_i32_340 : BitVec 32 := 0#32
  let v555 : BitVec 1 := Scalar.cmpi .eq c32_i32_339 c0_i32_340
  let c1_i32_341 : BitVec 32 := 1#32
  let v556 : BitVec 32 := Scalar.select v555 c1_i32_341 c32_i32_339
  let v557 : BitVec 32 := Scalar.remsi v554 v556
  let c0_i32_343 : BitVec 32 := 0#32
  let v559 : BitVec 1 := Scalar.cmpi .slt v557 c0_i32_343
  let c0_i32_344 : BitVec 32 := 0#32
  let v560 : BitVec 1 := Scalar.cmpi .slt v556 c0_i32_344
  let v561 : BitVec 1 := Scalar.xori v559 v560
  let c0_i32_342 : BitVec 32 := 0#32
  let v558 : BitVec 1 := Scalar.cmpi .ne v557 c0_i32_342
  let v562 : BitVec 1 := Scalar.andi v561 v558
  let v563 : BitVec 32 := Scalar.addi v557 v556
  let v564 : BitVec 32 := Scalar.select v562 v563 v557
  v564.toNat
def k0_dev44 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_349 : BitVec 32 := 13#32
  let v573 : BitVec 32 := Scalar.addi v2 c13_i32_349
  let c32_i32_350 : BitVec 32 := 32#32
  let c0_i32_351 : BitVec 32 := 0#32
  let v574 : BitVec 1 := Scalar.cmpi .eq c32_i32_350 c0_i32_351
  let c1_i32_352 : BitVec 32 := 1#32
  let v575 : BitVec 32 := Scalar.select v574 c1_i32_352 c32_i32_350
  let v576 : BitVec 32 := Scalar.remsi v573 v575
  let c0_i32_354 : BitVec 32 := 0#32
  let v578 : BitVec 1 := Scalar.cmpi .slt v576 c0_i32_354
  let c0_i32_355 : BitVec 32 := 0#32
  let v579 : BitVec 1 := Scalar.cmpi .slt v575 c0_i32_355
  let v580 : BitVec 1 := Scalar.xori v578 v579
  let c0_i32_353 : BitVec 32 := 0#32
  let v577 : BitVec 1 := Scalar.cmpi .ne v576 c0_i32_353
  let v581 : BitVec 1 := Scalar.andi v580 v577
  let v582 : BitVec 32 := Scalar.addi v576 v575
  let v583 : BitVec 32 := Scalar.select v581 v582 v576
  v583.toNat
def k0_dev45 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_360 : BitVec 32 := 14#32
  let v592 : BitVec 32 := Scalar.addi v2 c14_i32_360
  let c32_i32_361 : BitVec 32 := 32#32
  let c0_i32_362 : BitVec 32 := 0#32
  let v593 : BitVec 1 := Scalar.cmpi .eq c32_i32_361 c0_i32_362
  let c1_i32_363 : BitVec 32 := 1#32
  let v594 : BitVec 32 := Scalar.select v593 c1_i32_363 c32_i32_361
  let v595 : BitVec 32 := Scalar.remsi v592 v594
  let c0_i32_365 : BitVec 32 := 0#32
  let v597 : BitVec 1 := Scalar.cmpi .slt v595 c0_i32_365
  let c0_i32_366 : BitVec 32 := 0#32
  let v598 : BitVec 1 := Scalar.cmpi .slt v594 c0_i32_366
  let v599 : BitVec 1 := Scalar.xori v597 v598
  let c0_i32_364 : BitVec 32 := 0#32
  let v596 : BitVec 1 := Scalar.cmpi .ne v595 c0_i32_364
  let v600 : BitVec 1 := Scalar.andi v599 v596
  let v601 : BitVec 32 := Scalar.addi v595 v594
  let v602 : BitVec 32 := Scalar.select v600 v601 v595
  v602.toNat
def k0_dev46 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_371 : BitVec 32 := 15#32
  let v611 : BitVec 32 := Scalar.addi v2 c15_i32_371
  let c32_i32_372 : BitVec 32 := 32#32
  let c0_i32_373 : BitVec 32 := 0#32
  let v612 : BitVec 1 := Scalar.cmpi .eq c32_i32_372 c0_i32_373
  let c1_i32_374 : BitVec 32 := 1#32
  let v613 : BitVec 32 := Scalar.select v612 c1_i32_374 c32_i32_372
  let v614 : BitVec 32 := Scalar.remsi v611 v613
  let c0_i32_376 : BitVec 32 := 0#32
  let v616 : BitVec 1 := Scalar.cmpi .slt v614 c0_i32_376
  let c0_i32_377 : BitVec 32 := 0#32
  let v617 : BitVec 1 := Scalar.cmpi .slt v613 c0_i32_377
  let v618 : BitVec 1 := Scalar.xori v616 v617
  let c0_i32_375 : BitVec 32 := 0#32
  let v615 : BitVec 1 := Scalar.cmpi .ne v614 c0_i32_375
  let v619 : BitVec 1 := Scalar.andi v618 v615
  let v620 : BitVec 32 := Scalar.addi v614 v613
  let v621 : BitVec 32 := Scalar.select v619 v620 v614
  v621.toNat
def k0_dev47 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_382 : BitVec 32 := 16#32
  let v630 : BitVec 32 := Scalar.addi v2 c16_i32_382
  let c32_i32_383 : BitVec 32 := 32#32
  let c0_i32_384 : BitVec 32 := 0#32
  let v631 : BitVec 1 := Scalar.cmpi .eq c32_i32_383 c0_i32_384
  let c1_i32_385 : BitVec 32 := 1#32
  let v632 : BitVec 32 := Scalar.select v631 c1_i32_385 c32_i32_383
  let v633 : BitVec 32 := Scalar.remsi v630 v632
  let c0_i32_387 : BitVec 32 := 0#32
  let v635 : BitVec 1 := Scalar.cmpi .slt v633 c0_i32_387
  let c0_i32_388 : BitVec 32 := 0#32
  let v636 : BitVec 1 := Scalar.cmpi .slt v632 c0_i32_388
  let v637 : BitVec 1 := Scalar.xori v635 v636
  let c0_i32_386 : BitVec 32 := 0#32
  let v634 : BitVec 1 := Scalar.cmpi .ne v633 c0_i32_386
  let v638 : BitVec 1 := Scalar.andi v637 v634
  let v639 : BitVec 32 := Scalar.addi v633 v632
  let v640 : BitVec 32 := Scalar.select v638 v639 v633
  v640.toNat
def k0_dev48 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_393 : BitVec 32 := 17#32
  let v649 : BitVec 32 := Scalar.addi v2 c17_i32_393
  let c32_i32_394 : BitVec 32 := 32#32
  let c0_i32_395 : BitVec 32 := 0#32
  let v650 : BitVec 1 := Scalar.cmpi .eq c32_i32_394 c0_i32_395
  let c1_i32_396 : BitVec 32 := 1#32
  let v651 : BitVec 32 := Scalar.select v650 c1_i32_396 c32_i32_394
  let v652 : BitVec 32 := Scalar.remsi v649 v651
  let c0_i32_398 : BitVec 32 := 0#32
  let v654 : BitVec 1 := Scalar.cmpi .slt v652 c0_i32_398
  let c0_i32_399 : BitVec 32 := 0#32
  let v655 : BitVec 1 := Scalar.cmpi .slt v651 c0_i32_399
  let v656 : BitVec 1 := Scalar.xori v654 v655
  let c0_i32_397 : BitVec 32 := 0#32
  let v653 : BitVec 1 := Scalar.cmpi .ne v652 c0_i32_397
  let v657 : BitVec 1 := Scalar.andi v656 v653
  let v658 : BitVec 32 := Scalar.addi v652 v651
  let v659 : BitVec 32 := Scalar.select v657 v658 v652
  v659.toNat
def k0_dev49 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_404 : BitVec 32 := 18#32
  let v668 : BitVec 32 := Scalar.addi v2 c18_i32_404
  let c32_i32_405 : BitVec 32 := 32#32
  let c0_i32_406 : BitVec 32 := 0#32
  let v669 : BitVec 1 := Scalar.cmpi .eq c32_i32_405 c0_i32_406
  let c1_i32_407 : BitVec 32 := 1#32
  let v670 : BitVec 32 := Scalar.select v669 c1_i32_407 c32_i32_405
  let v671 : BitVec 32 := Scalar.remsi v668 v670
  let c0_i32_409 : BitVec 32 := 0#32
  let v673 : BitVec 1 := Scalar.cmpi .slt v671 c0_i32_409
  let c0_i32_410 : BitVec 32 := 0#32
  let v674 : BitVec 1 := Scalar.cmpi .slt v670 c0_i32_410
  let v675 : BitVec 1 := Scalar.xori v673 v674
  let c0_i32_408 : BitVec 32 := 0#32
  let v672 : BitVec 1 := Scalar.cmpi .ne v671 c0_i32_408
  let v676 : BitVec 1 := Scalar.andi v675 v672
  let v677 : BitVec 32 := Scalar.addi v671 v670
  let v678 : BitVec 32 := Scalar.select v676 v677 v671
  v678.toNat
def k0_dev50 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_415 : BitVec 32 := 19#32
  let v687 : BitVec 32 := Scalar.addi v2 c19_i32_415
  let c32_i32_416 : BitVec 32 := 32#32
  let c0_i32_417 : BitVec 32 := 0#32
  let v688 : BitVec 1 := Scalar.cmpi .eq c32_i32_416 c0_i32_417
  let c1_i32_418 : BitVec 32 := 1#32
  let v689 : BitVec 32 := Scalar.select v688 c1_i32_418 c32_i32_416
  let v690 : BitVec 32 := Scalar.remsi v687 v689
  let c0_i32_420 : BitVec 32 := 0#32
  let v692 : BitVec 1 := Scalar.cmpi .slt v690 c0_i32_420
  let c0_i32_421 : BitVec 32 := 0#32
  let v693 : BitVec 1 := Scalar.cmpi .slt v689 c0_i32_421
  let v694 : BitVec 1 := Scalar.xori v692 v693
  let c0_i32_419 : BitVec 32 := 0#32
  let v691 : BitVec 1 := Scalar.cmpi .ne v690 c0_i32_419
  let v695 : BitVec 1 := Scalar.andi v694 v691
  let v696 : BitVec 32 := Scalar.addi v690 v689
  let v697 : BitVec 32 := Scalar.select v695 v696 v690
  v697.toNat
def k0_dev51 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_426 : BitVec 32 := 20#32
  let v706 : BitVec 32 := Scalar.addi v2 c20_i32_426
  let c32_i32_427 : BitVec 32 := 32#32
  let c0_i32_428 : BitVec 32 := 0#32
  let v707 : BitVec 1 := Scalar.cmpi .eq c32_i32_427 c0_i32_428
  let c1_i32_429 : BitVec 32 := 1#32
  let v708 : BitVec 32 := Scalar.select v707 c1_i32_429 c32_i32_427
  let v709 : BitVec 32 := Scalar.remsi v706 v708
  let c0_i32_431 : BitVec 32 := 0#32
  let v711 : BitVec 1 := Scalar.cmpi .slt v709 c0_i32_431
  let c0_i32_432 : BitVec 32 := 0#32
  let v712 : BitVec 1 := Scalar.cmpi .slt v708 c0_i32_432
  let v713 : BitVec 1 := Scalar.xori v711 v712
  let c0_i32_430 : BitVec 32 := 0#32
  let v710 : BitVec 1 := Scalar.cmpi .ne v709 c0_i32_430
  let v714 : BitVec 1 := Scalar.andi v713 v710
  let v715 : BitVec 32 := Scalar.addi v709 v708
  let v716 : BitVec 32 := Scalar.select v714 v715 v709
  v716.toNat
def k0_dev52 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_437 : BitVec 32 := 21#32
  let v725 : BitVec 32 := Scalar.addi v2 c21_i32_437
  let c32_i32_438 : BitVec 32 := 32#32
  let c0_i32_439 : BitVec 32 := 0#32
  let v726 : BitVec 1 := Scalar.cmpi .eq c32_i32_438 c0_i32_439
  let c1_i32_440 : BitVec 32 := 1#32
  let v727 : BitVec 32 := Scalar.select v726 c1_i32_440 c32_i32_438
  let v728 : BitVec 32 := Scalar.remsi v725 v727
  let c0_i32_442 : BitVec 32 := 0#32
  let v730 : BitVec 1 := Scalar.cmpi .slt v728 c0_i32_442
  let c0_i32_443 : BitVec 32 := 0#32
  let v731 : BitVec 1 := Scalar.cmpi .slt v727 c0_i32_443
  let v732 : BitVec 1 := Scalar.xori v730 v731
  let c0_i32_441 : BitVec 32 := 0#32
  let v729 : BitVec 1 := Scalar.cmpi .ne v728 c0_i32_441
  let v733 : BitVec 1 := Scalar.andi v732 v729
  let v734 : BitVec 32 := Scalar.addi v728 v727
  let v735 : BitVec 32 := Scalar.select v733 v734 v728
  v735.toNat
def k0_dev53 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_448 : BitVec 32 := 22#32
  let v744 : BitVec 32 := Scalar.addi v2 c22_i32_448
  let c32_i32_449 : BitVec 32 := 32#32
  let c0_i32_450 : BitVec 32 := 0#32
  let v745 : BitVec 1 := Scalar.cmpi .eq c32_i32_449 c0_i32_450
  let c1_i32_451 : BitVec 32 := 1#32
  let v746 : BitVec 32 := Scalar.select v745 c1_i32_451 c32_i32_449
  let v747 : BitVec 32 := Scalar.remsi v744 v746
  let c0_i32_453 : BitVec 32 := 0#32
  let v749 : BitVec 1 := Scalar.cmpi .slt v747 c0_i32_453
  let c0_i32_454 : BitVec 32 := 0#32
  let v750 : BitVec 1 := Scalar.cmpi .slt v746 c0_i32_454
  let v751 : BitVec 1 := Scalar.xori v749 v750
  let c0_i32_452 : BitVec 32 := 0#32
  let v748 : BitVec 1 := Scalar.cmpi .ne v747 c0_i32_452
  let v752 : BitVec 1 := Scalar.andi v751 v748
  let v753 : BitVec 32 := Scalar.addi v747 v746
  let v754 : BitVec 32 := Scalar.select v752 v753 v747
  v754.toNat
def k0_dev54 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_459 : BitVec 32 := 23#32
  let v763 : BitVec 32 := Scalar.addi v2 c23_i32_459
  let c32_i32_460 : BitVec 32 := 32#32
  let c0_i32_461 : BitVec 32 := 0#32
  let v764 : BitVec 1 := Scalar.cmpi .eq c32_i32_460 c0_i32_461
  let c1_i32_462 : BitVec 32 := 1#32
  let v765 : BitVec 32 := Scalar.select v764 c1_i32_462 c32_i32_460
  let v766 : BitVec 32 := Scalar.remsi v763 v765
  let c0_i32_464 : BitVec 32 := 0#32
  let v768 : BitVec 1 := Scalar.cmpi .slt v766 c0_i32_464
  let c0_i32_465 : BitVec 32 := 0#32
  let v769 : BitVec 1 := Scalar.cmpi .slt v765 c0_i32_465
  let v770 : BitVec 1 := Scalar.xori v768 v769
  let c0_i32_463 : BitVec 32 := 0#32
  let v767 : BitVec 1 := Scalar.cmpi .ne v766 c0_i32_463
  let v771 : BitVec 1 := Scalar.andi v770 v767
  let v772 : BitVec 32 := Scalar.addi v766 v765
  let v773 : BitVec 32 := Scalar.select v771 v772 v766
  v773.toNat
def k0_dev55 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_470 : BitVec 32 := 24#32
  let v782 : BitVec 32 := Scalar.addi v2 c24_i32_470
  let c32_i32_471 : BitVec 32 := 32#32
  let c0_i32_472 : BitVec 32 := 0#32
  let v783 : BitVec 1 := Scalar.cmpi .eq c32_i32_471 c0_i32_472
  let c1_i32_473 : BitVec 32 := 1#32
  let v784 : BitVec 32 := Scalar.select v783 c1_i32_473 c32_i32_471
  let v785 : BitVec 32 := Scalar.remsi v782 v784
  let c0_i32_475 : BitVec 32 := 0#32
  let v787 : BitVec 1 := Scalar.cmpi .slt v785 c0_i32_475
  let c0_i32_476 : BitVec 32 := 0#32
  let v788 : BitVec 1 := Scalar.cmpi .slt v784 c0_i32_476
  let v789 : BitVec 1 := Scalar.xori v787 v788
  let c0_i32_474 : BitVec 32 := 0#32
  let v786 : BitVec 1 := Scalar.cmpi .ne v785 c0_i32_474
  let v790 : BitVec 1 := Scalar.andi v789 v786
  let v791 : BitVec 32 := Scalar.addi v785 v784
  let v792 : BitVec 32 := Scalar.select v790 v791 v785
  v792.toNat
def k0_dev56 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_481 : BitVec 32 := 25#32
  let v801 : BitVec 32 := Scalar.addi v2 c25_i32_481
  let c32_i32_482 : BitVec 32 := 32#32
  let c0_i32_483 : BitVec 32 := 0#32
  let v802 : BitVec 1 := Scalar.cmpi .eq c32_i32_482 c0_i32_483
  let c1_i32_484 : BitVec 32 := 1#32
  let v803 : BitVec 32 := Scalar.select v802 c1_i32_484 c32_i32_482
  let v804 : BitVec 32 := Scalar.remsi v801 v803
  let c0_i32_486 : BitVec 32 := 0#32
  let v806 : BitVec 1 := Scalar.cmpi .slt v804 c0_i32_486
  let c0_i32_487 : BitVec 32 := 0#32
  let v807 : BitVec 1 := Scalar.cmpi .slt v803 c0_i32_487
  let v808 : BitVec 1 := Scalar.xori v806 v807
  let c0_i32_485 : BitVec 32 := 0#32
  let v805 : BitVec 1 := Scalar.cmpi .ne v804 c0_i32_485
  let v809 : BitVec 1 := Scalar.andi v808 v805
  let v810 : BitVec 32 := Scalar.addi v804 v803
  let v811 : BitVec 32 := Scalar.select v809 v810 v804
  v811.toNat
def k0_dev57 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_492 : BitVec 32 := 26#32
  let v820 : BitVec 32 := Scalar.addi v2 c26_i32_492
  let c32_i32_493 : BitVec 32 := 32#32
  let c0_i32_494 : BitVec 32 := 0#32
  let v821 : BitVec 1 := Scalar.cmpi .eq c32_i32_493 c0_i32_494
  let c1_i32_495 : BitVec 32 := 1#32
  let v822 : BitVec 32 := Scalar.select v821 c1_i32_495 c32_i32_493
  let v823 : BitVec 32 := Scalar.remsi v820 v822
  let c0_i32_497 : BitVec 32 := 0#32
  let v825 : BitVec 1 := Scalar.cmpi .slt v823 c0_i32_497
  let c0_i32_498 : BitVec 32 := 0#32
  let v826 : BitVec 1 := Scalar.cmpi .slt v822 c0_i32_498
  let v827 : BitVec 1 := Scalar.xori v825 v826
  let c0_i32_496 : BitVec 32 := 0#32
  let v824 : BitVec 1 := Scalar.cmpi .ne v823 c0_i32_496
  let v828 : BitVec 1 := Scalar.andi v827 v824
  let v829 : BitVec 32 := Scalar.addi v823 v822
  let v830 : BitVec 32 := Scalar.select v828 v829 v823
  v830.toNat
def k0_dev58 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_503 : BitVec 32 := 27#32
  let v839 : BitVec 32 := Scalar.addi v2 c27_i32_503
  let c32_i32_504 : BitVec 32 := 32#32
  let c0_i32_505 : BitVec 32 := 0#32
  let v840 : BitVec 1 := Scalar.cmpi .eq c32_i32_504 c0_i32_505
  let c1_i32_506 : BitVec 32 := 1#32
  let v841 : BitVec 32 := Scalar.select v840 c1_i32_506 c32_i32_504
  let v842 : BitVec 32 := Scalar.remsi v839 v841
  let c0_i32_508 : BitVec 32 := 0#32
  let v844 : BitVec 1 := Scalar.cmpi .slt v842 c0_i32_508
  let c0_i32_509 : BitVec 32 := 0#32
  let v845 : BitVec 1 := Scalar.cmpi .slt v841 c0_i32_509
  let v846 : BitVec 1 := Scalar.xori v844 v845
  let c0_i32_507 : BitVec 32 := 0#32
  let v843 : BitVec 1 := Scalar.cmpi .ne v842 c0_i32_507
  let v847 : BitVec 1 := Scalar.andi v846 v843
  let v848 : BitVec 32 := Scalar.addi v842 v841
  let v849 : BitVec 32 := Scalar.select v847 v848 v842
  v849.toNat
def k0_dev59 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_514 : BitVec 32 := 28#32
  let v858 : BitVec 32 := Scalar.addi v2 c28_i32_514
  let c32_i32_515 : BitVec 32 := 32#32
  let c0_i32_516 : BitVec 32 := 0#32
  let v859 : BitVec 1 := Scalar.cmpi .eq c32_i32_515 c0_i32_516
  let c1_i32_517 : BitVec 32 := 1#32
  let v860 : BitVec 32 := Scalar.select v859 c1_i32_517 c32_i32_515
  let v861 : BitVec 32 := Scalar.remsi v858 v860
  let c0_i32_519 : BitVec 32 := 0#32
  let v863 : BitVec 1 := Scalar.cmpi .slt v861 c0_i32_519
  let c0_i32_520 : BitVec 32 := 0#32
  let v864 : BitVec 1 := Scalar.cmpi .slt v860 c0_i32_520
  let v865 : BitVec 1 := Scalar.xori v863 v864
  let c0_i32_518 : BitVec 32 := 0#32
  let v862 : BitVec 1 := Scalar.cmpi .ne v861 c0_i32_518
  let v866 : BitVec 1 := Scalar.andi v865 v862
  let v867 : BitVec 32 := Scalar.addi v861 v860
  let v868 : BitVec 32 := Scalar.select v866 v867 v861
  v868.toNat
def k0_dev60 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_525 : BitVec 32 := 29#32
  let v877 : BitVec 32 := Scalar.addi v2 c29_i32_525
  let c32_i32_526 : BitVec 32 := 32#32
  let c0_i32_527 : BitVec 32 := 0#32
  let v878 : BitVec 1 := Scalar.cmpi .eq c32_i32_526 c0_i32_527
  let c1_i32_528 : BitVec 32 := 1#32
  let v879 : BitVec 32 := Scalar.select v878 c1_i32_528 c32_i32_526
  let v880 : BitVec 32 := Scalar.remsi v877 v879
  let c0_i32_530 : BitVec 32 := 0#32
  let v882 : BitVec 1 := Scalar.cmpi .slt v880 c0_i32_530
  let c0_i32_531 : BitVec 32 := 0#32
  let v883 : BitVec 1 := Scalar.cmpi .slt v879 c0_i32_531
  let v884 : BitVec 1 := Scalar.xori v882 v883
  let c0_i32_529 : BitVec 32 := 0#32
  let v881 : BitVec 1 := Scalar.cmpi .ne v880 c0_i32_529
  let v885 : BitVec 1 := Scalar.andi v884 v881
  let v886 : BitVec 32 := Scalar.addi v880 v879
  let v887 : BitVec 32 := Scalar.select v885 v886 v880
  v887.toNat
def k0_dev61 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_536 : BitVec 32 := 30#32
  let v896 : BitVec 32 := Scalar.addi v2 c30_i32_536
  let c32_i32_537 : BitVec 32 := 32#32
  let c0_i32_538 : BitVec 32 := 0#32
  let v897 : BitVec 1 := Scalar.cmpi .eq c32_i32_537 c0_i32_538
  let c1_i32_539 : BitVec 32 := 1#32
  let v898 : BitVec 32 := Scalar.select v897 c1_i32_539 c32_i32_537
  let v899 : BitVec 32 := Scalar.remsi v896 v898
  let c0_i32_541 : BitVec 32 := 0#32
  let v901 : BitVec 1 := Scalar.cmpi .slt v899 c0_i32_541
  let c0_i32_542 : BitVec 32 := 0#32
  let v902 : BitVec 1 := Scalar.cmpi .slt v898 c0_i32_542
  let v903 : BitVec 1 := Scalar.xori v901 v902
  let c0_i32_540 : BitVec 32 := 0#32
  let v900 : BitVec 1 := Scalar.cmpi .ne v899 c0_i32_540
  let v904 : BitVec 1 := Scalar.andi v903 v900
  let v905 : BitVec 32 := Scalar.addi v899 v898
  let v906 : BitVec 32 := Scalar.select v904 v905 v899
  v906.toNat
def k0_dev62 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_547 : BitVec 32 := 31#32
  let v915 : BitVec 32 := Scalar.addi v2 c31_i32_547
  let c32_i32_548 : BitVec 32 := 32#32
  let c0_i32_549 : BitVec 32 := 0#32
  let v916 : BitVec 1 := Scalar.cmpi .eq c32_i32_548 c0_i32_549
  let c1_i32_550 : BitVec 32 := 1#32
  let v917 : BitVec 32 := Scalar.select v916 c1_i32_550 c32_i32_548
  let v918 : BitVec 32 := Scalar.remsi v915 v917
  let c0_i32_552 : BitVec 32 := 0#32
  let v920 : BitVec 1 := Scalar.cmpi .slt v918 c0_i32_552
  let c0_i32_553 : BitVec 32 := 0#32
  let v921 : BitVec 1 := Scalar.cmpi .slt v917 c0_i32_553
  let v922 : BitVec 1 := Scalar.xori v920 v921
  let c0_i32_551 : BitVec 32 := 0#32
  let v919 : BitVec 1 := Scalar.cmpi .ne v918 c0_i32_551
  let v923 : BitVec 1 := Scalar.andi v922 v919
  let v924 : BitVec 32 := Scalar.addi v918 v917
  let v925 : BitVec 32 := Scalar.select v923 v924 v918
  v925.toNat
def k0_off5 (d0 : Dev nD) : Fin 2 → Nat :=
  let c0 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_558 : BitVec 32 := 256#32
  let v934 : BitVec 32 := Scalar.muli v2 c256_i32_558
  let v935 : Index := Scalar.indexCast v934
  ![0, v935.toNat]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_559 : BitVec 32 := 256#32
  let v938 : BitVec 32 := Scalar.muli v2 c256_i32_559
  let v939 : Index := Scalar.indexCast v938
  let c0_560 : Index := 0#32
  ![v939.toNat, 0]
def k0_off7 (d0 : Dev nD) (c1_i32_561 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v941 : BitVec 32 := Scalar.subi v2 c1_i32_561
  let c32_i32_562 : BitVec 32 := 32#32
  let c0_i32_563 : BitVec 32 := 0#32
  let v942 : BitVec 1 := Scalar.cmpi .eq c32_i32_562 c0_i32_563
  let c1_i32_564 : BitVec 32 := 1#32
  let v943 : BitVec 32 := Scalar.select v942 c1_i32_564 c32_i32_562
  let v944 : BitVec 32 := Scalar.remsi v941 v943
  let c0_i32_566 : BitVec 32 := 0#32
  let v946 : BitVec 1 := Scalar.cmpi .slt v944 c0_i32_566
  let c0_i32_567 : BitVec 32 := 0#32
  let v947 : BitVec 1 := Scalar.cmpi .slt v943 c0_i32_567
  let v948 : BitVec 1 := Scalar.xori v946 v947
  let c0_i32_565 : BitVec 32 := 0#32
  let v945 : BitVec 1 := Scalar.cmpi .ne v944 c0_i32_565
  let v949 : BitVec 1 := Scalar.andi v948 v945
  let v950 : BitVec 32 := Scalar.addi v944 v943
  let v951 : BitVec 32 := Scalar.select v949 v950 v944
  ![v951.toNat]
def k0_off8 (d0 : Dev nD) (c1_i32_561 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v941 : BitVec 32 := Scalar.subi v2 c1_i32_561
  let c32_i32_562 : BitVec 32 := 32#32
  let c0_i32_563 : BitVec 32 := 0#32
  let v942 : BitVec 1 := Scalar.cmpi .eq c32_i32_562 c0_i32_563
  let c1_i32_564 : BitVec 32 := 1#32
  let v943 : BitVec 32 := Scalar.select v942 c1_i32_564 c32_i32_562
  let v944 : BitVec 32 := Scalar.remsi v941 v943
  let c0_i32_566 : BitVec 32 := 0#32
  let v946 : BitVec 1 := Scalar.cmpi .slt v944 c0_i32_566
  let c0_i32_567 : BitVec 32 := 0#32
  let v947 : BitVec 1 := Scalar.cmpi .slt v943 c0_i32_567
  let v948 : BitVec 1 := Scalar.xori v946 v947
  let c0_i32_565 : BitVec 32 := 0#32
  let v945 : BitVec 1 := Scalar.cmpi .ne v944 c0_i32_565
  let v949 : BitVec 1 := Scalar.andi v948 v945
  let v950 : BitVec 32 := Scalar.addi v944 v943
  let v951 : BitVec 32 := Scalar.select v949 v950 v944
  let c256_i32_568 : BitVec 32 := 256#32
  let v952 : BitVec 32 := Scalar.muli v951 c256_i32_568
  let c0_i32_569 : BitVec 32 := 0#32
  ![v952.toNat, 0]
abbrev stage0_0 : Fin 1 → Memref sig .tc .vmem S256x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩

abbrev nBuf : Space → Nat
  | .hbm => 1
  | .vmem => 0
  | .smem => 0
  | _ => 0

abbrev bufTy : (tb : Table) → Fin (tcTables nBuf tb) → BufTy
  | .hbm, ⟨0, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.KernelIdeal.Program.lean ====
/-
The kernel of `KernelIdeal` as five short loops.

The printed body is 31 signals, one wait, 31 remote copies, the store of the device's own block and 62 waits, written one
after the other with each address a chain of 32-bit operations. Here the same body is a program over LISTS of devices with every
address in closed form: `body c` on device `c`, and `cc0_body_eq`, that the printed body is `body` at the device it
asks for.
-/
module

public import proofs.«01_k».proof.Proof.Gen.KernelIdeal
public import proofs.«01_k».proof.Proof.Gen.KernelIdeal.Skeleton

@[expose] public section

noncomputable section

namespace Cert.Exchange.KernelIdeal

open Cert.KernelIdeal Cert.KernelIdeal.Gen
open Idealize.ShloMosaic Idealize.ShloMosaic.TcCoe
open Idealize.SL.Sem

variable {F : FTy → Type} [FloatOps F]

/-! ## Loops -/

/-- One effect for each element of a list, in order, then `k`. -/
def runAll {α β : Type} {E : Type → Type} (op : α → E PUnit) : List α → Prog E β → Prog E β
  | [], k => k
  | a :: l, k => .op (op a) fun _ => runAll op l k

/-- The loop over a mapped list is the loop over the list of the composed effects. -/
theorem runAll_map {α β γ : Type} {E : Type → Type} (op : α → E PUnit) (f : γ → α) (l : List γ) (k : Prog E β) :
    runAll op (l.map f) k = runAll (fun a => op (f a)) l k := by
  induction l with
  | nil => rfl
  | cons a l ih => exact congrArg (Prog.op (op (f a))) (funext fun _ => ih)

/-! ## The memrefs and the semaphores -/

/-- The argument's staging buffer, the result's, and the barrier semaphore. -/
abbrev xM : Memref sig .tc .vmem S256x8192 .f32 := Memref.whole cc0_stg0_0
abbrev oM : Memref sig .tc .vmem S8192x256 .f32 := Memref.whole cc0_stg1_0
abbrev barS : Sem sig := (SemArray.scalar (sig.barrier 0 rfl) : Sems sig S_).sem

/-- The 256x256 block of the argument, and of the result, at an offset; one semaphore of an array of 32. -/
abbrev xAt (o : Fin 2 → ℕ) (h : ∀ a, o a + S256x256.size a ≤ S256x8192.size a) : Memref sig .tc .vmem S256x256 .f32 :=
  xM.slice (Rect.unit (s := S256x8192) o S256x256.size h) (fun _ => rfl)
abbrev oAt (o : Fin 2 → ℕ) (h : ∀ a, o a + S256x256.size a ≤ S8192x256.size a) : Memref sig .tc .vmem S256x256 .f32 :=
  oM.slice (Rect.unit (s := S8192x256) o S256x256.size h) (fun _ => rfl)
abbrev semAt (A : DmaSems sig S32) (o : Fin 1 → ℕ) (h : ∀ a, o a + S1.size a ≤ S32.size a) : DmaSem sig :=
  ((A.slice (Rect.unit (s := S32) o S1.size h)).squeeze S_ squeezes_S1_S_).sem

/-! ## The effects, at any offsets -/

/-- A unit to device `n`'s barrier semaphore. -/
def sigAt (n : Dev nD) : TpuEff nD τ sig (Elt F) Λ₀ .tc PUnit := .semSignal (Dev.tc n) barS (1#32 : BitVec 32).toInt

/-- The remote copy to device `n`: the argument's block at `ox` to the result's block at `oo`, over the send semaphore
    at `os` here and the receive semaphore at `or` there. -/
def sendAt (ox : Fin 2 → ℕ) (hx : ∀ a, ox a + S256x256.size a ≤ S256x8192.size a) (oo : Fin 2 → ℕ) (ho : ∀ a, oo a + S256x256.size a ≤ S8192x256.size a)
    (os : Fin 1 → ℕ) (hs : ∀ a, os a + S1.size a ≤ S32.size a) (or : Fin 1 → ℕ) (hr : ∀ a, or a + S1.size a ≤ S32.size a) (n : Dev nD) :
    TpuEff nD τ sig (Elt F) Λ₀ .tc PUnit :=
  .enqueueDma (xAt ox hx) (.remote (Dev.tc n) (oAt oo ho) (.dma (semAt cc0_scratch0 os hs))) (.dma (semAt cc0_scratch1 or hr))
    (View.wordExact_bits rfl) (View.wordExact_bits rfl) ⟨⟨rfl, Or.inl rfl⟩, trivial⟩

/-- The wait on the receive semaphore at `or`, for the bytes of the result's block at `oo`. -/
def recvAt (or : Fin 1 → ℕ) (hr : ∀ a, or a + S1.size a ≤ S32.size a) (oo : Fin 2 → ℕ) (ho : ∀ a, oo a + S256x256.size a ≤ S8192x256.size a) :
    TpuEff nD τ sig (Elt F) Λ₀ .tc PUnit :=
  .waitDma2 (semAt cc0_scratch1 or hr) (xAt ![0, 0] inb_S256x8192_S256x256_0_0) (oAt oo ho) (View.wordExact_bits rfl) (View.wordExact_bits rfl)

/-- The wait on the send semaphore at `os`, for the bytes of the argument's block at `ox`. -/
def doneAt (os : Fin 1 → ℕ) (hs : ∀ a, os a + S1.size a ≤ S32.size a) (ox : Fin 2 → ℕ) (hx : ∀ a, ox a + S256x256.size a ≤ S256x8192.size a) :
    TpuEff nD τ sig (Elt F) Λ₀ .tc PUnit :=
  .waitDma2 (semAt cc0_scratch0 os hs) (oAt ![0, 0] inb_S8192x256_S256x256_0_0) (xAt ox hx) (View.wordExact_bits rfl) (View.wordExact_bits rfl)

/-- The argument's block at `ox` loaded and stored to the result's block at `oo`, whose old elements are loaded too. -/
def ownAt (ox : Fin 2 → ℕ) (hx : ∀ a, ox a + S256x256.size a ≤ S256x8192.size a) (oo : Fin 2 → ℕ) (ho : ∀ a, oo a + S256x256.size a ≤ S8192x256.size a)
    (k : Prog (TpuEff nD τ sig (Elt F) Λ₀ .tc) PUnit) : Prog (TpuEff nD τ sig (Elt F) Λ₀ .tc) PUnit :=
  .op (.load xM (Rect.unit (s := S256x8192) ox S256x256.size hx).toLoadRect (View.loadsAt_vmem h_S256x256)) fun v =>
  .op (.load oM (Rect.unit (s := S8192x256) oo S256x256.size ho).toLoadRect (View.loadsAt_vmem h_S256x256)) fun _ =>
  .op (.store oM (Rect.unit (s := S8192x256) oo S256x256.size ho) (k0_pay1 v) Finset.univ (View.stores_vmem_bits_univ h_S256x256 rfl) (.inl rfl)) fun _ => k

/-! ## The program as printed, as loops -/

/-- The devices signalled, in order; the devices copied to, each with its step. -/
def rawSigs (c : Dev nD) : List (Dev nD) :=
  [ ⟨k0_dev1 c, k0_dev1_lt c⟩,
    ⟨k0_dev2 c, k0_dev2_lt c⟩,
    ⟨k0_dev3 c, k0_dev3_lt c⟩,
    ⟨k0_dev4 c, k0_dev4_lt c⟩,
    ⟨k0_dev5 c, k0_dev5_lt c⟩,
    ⟨k0_dev6 c, k0_dev6_lt c⟩,
    ⟨k0_dev7 c, k0_dev7_lt c⟩,
    ⟨k0_dev8 c, k0_dev8_lt c⟩,
    ⟨k0_dev9 c, k0_dev9_lt c⟩,
    ⟨k0_dev10 c, k0_dev10_lt c⟩,
    ⟨k0_dev11 c, k0_dev11_lt c⟩,
    ⟨k0_dev12 c, k0_dev12_lt c⟩,
    ⟨k0_dev13 c, k0_dev13_lt c⟩,
    ⟨k0_dev14 c, k0_dev14_lt c⟩,
    ⟨k0_dev15 c, k0_dev15_lt c⟩,
    ⟨k0_dev16 c, k0_dev16_lt c⟩,
    ⟨k0_dev17 c, k0_dev17_lt c⟩,
    ⟨k0_dev18 c, k0_dev18_lt c⟩,
    ⟨k0_dev19 c, k0_dev19_lt c⟩,
    ⟨k0_dev20 c, k0_dev20_lt c⟩,
    ⟨k0_dev21 c, k0_dev21_lt c⟩,
    ⟨k0_dev22 c, k0_dev22_lt c⟩,
    ⟨k0_dev23 c, k0_dev23_lt c⟩,
    ⟨k0_dev24 c, k0_dev24_lt c⟩,
    ⟨k0_dev25 c, k0_dev25_lt c⟩,
    ⟨k0_dev26 c, k0_dev26_lt c⟩,
    ⟨k0_dev27 c, k0_dev27_lt c⟩,
    ⟨k0_dev28 c, k0_dev28_lt c⟩,
    ⟨k0_dev29 c, k0_dev29_lt c⟩,
    ⟨k0_dev30 c, k0_dev30_lt c⟩,
    ⟨k0_dev31 c, k0_dev31_lt c⟩ ]
def rawSends (c : Dev nD) : List (Dev nD × Fin 31) :=
  [ (⟨k0_dev32 c, k0_dev32_lt c⟩, 0),
    (⟨k0_dev33 c, k0_dev33_lt c⟩, 1),
    (⟨k0_dev34 c, k0_dev34_lt c⟩, 2),
    (⟨k0_dev35 c, k0_dev35_lt c⟩, 3),
    (⟨k0_dev36 c, k0_dev36_lt c⟩, 4),
    (⟨k0_dev37 c, k0_dev37_lt c⟩, 5),
    (⟨k0_dev38 c, k0_dev38_lt c⟩, 6),
    (⟨k0_dev39 c, k0_dev39_lt c⟩, 7),
    (⟨k0_dev40 c, k0_dev40_lt c⟩, 8),
    (⟨k0_dev41 c, k0_dev41_lt c⟩, 9),
    (⟨k0_dev42 c, k0_dev42_lt c⟩, 10),
    (⟨k0_dev43 c, k0_dev43_lt c⟩, 11),
    (⟨k0_dev44 c, k0_dev44_lt c⟩, 12),
    (⟨k0_dev45 c, k0_dev45_lt c⟩, 13),
    (⟨k0_dev46 c, k0_dev46_lt c⟩, 14),
    (⟨k0_dev47 c, k0_dev47_lt c⟩, 15),
    (⟨k0_dev48 c, k0_dev48_lt c⟩, 16),
    (⟨k0_dev49 c, k0_dev49_lt c⟩, 17),
    (⟨k0_dev50 c, k0_dev50_lt c⟩, 18),
    (⟨k0_dev51 c, k0_dev51_lt c⟩, 19),
    (⟨k0_dev52 c, k0_dev52_lt c⟩, 20),
    (⟨k0_dev53 c, k0_dev53_lt c⟩, 21),
    (⟨k0_dev54 c, k0_dev54_lt c⟩, 22),
    (⟨k0_dev55 c, k0_dev55_lt c⟩, 23),
    (⟨k0_dev56 c, k0_dev56_lt c⟩, 24),
    (⟨k0_dev57 c, k0_dev57_lt c⟩, 25),
    (⟨k0_dev58 c, k0_dev58_lt c⟩, 26),
    (⟨k0_dev59 c, k0_dev59_lt c⟩, 27),
    (⟨k0_dev60 c, k0_dev60_lt c⟩, 28),
    (⟨k0_dev61 c, k0_dev61_lt c⟩, 29),
    (⟨k0_dev62 c, k0_dev62_lt c⟩, 30) ]

/-- The printed body at device `c`: its five loops over the printed addresses. -/
def rawBody (c : Dev nD) : Prog (TpuEff nD τ sig (Elt F) Λ₀ .tc) PUnit :=
  runAll sigAt (rawSigs c) <| .op (.semWait barS (31#32 : BitVec 32).toInt) fun _ =>
  runAll (fun p : Dev nD × Fin 31 => sendAt (k0_off4 c (BitVec.ofNat 32 (1 + p.2.val))) (k0_off4_inb c p.2) (k0_off3 c) (k0_off3_inb c)
    (k0_off1 c (BitVec.ofNat 32 (1 + p.2.val))) (k0_off1_inb c p.2) (k0_off2 c) (k0_off2_inb c) p.1) (rawSends c) <|
  ownAt (k0_off5 c) (k0_off5_inb c) (k0_off6 c) (k0_off6_inb c) <|
  runAll (fun r : Fin 31 => recvAt (k0_off7 c (BitVec.ofNat 32 (1 + r.val))) (k0_off7_inb c r) (k0_off8 c (BitVec.ofNat 32 (1 + r.val))) (k0_off8_inb c r))
    [0, 1, 2, 3, 4, 5, 6, 7, 8, 9, 10, 11, 12, 13, 14, 15, 16, 17, 18, 19, 20, 21, 22, 23, 24, 25, 26, 27, 28, 29, 30] <|
  runAll (fun r : Fin 31 => doneAt (k0_off1 c (BitVec.ofNat 32 (1 + r.val))) (k0_off1_inb c r) (k0_off4 c (BitVec.ofNat 32 (1 + r.val))) (k0_off4_inb c r))
    [0, 1, 2, 3, 4, 5, 6, 7, 8, 9, 10, 11, 12, 13, 14, 15, 16, 17, 18, 19, 20, 21, 22, 23, 24, 25, 26, 27, 28, 29, 30] <|
  .ret ⟨⟩

set_option maxRecDepth 65536 in
/-- The printed body is `rawBody` at the device it asks for, by unfolding. -/
theorem cc0_body_raw : cc0_body (F := F) xM (Memref.isWhole_whole _) oM (Memref.isWhole_whole _) cc0_scratch0 cc0_scratch1
    = .op .deviceId rawBody := rfl

/-! ## The addresses in closed form -/

set_option backward.proofsInPublic true in
/-- The device `r + 1` places after `c`, and `r + 1` places before it, around the mesh. -/
def after (c : Dev nD) (r : Fin 31) : Dev nD := ⟨(c.val + r.val + 1) % 32, Nat.mod_lt _ (by decide)⟩
set_option backward.proofsInPublic true in
def before (c : Dev nD) (r : Fin 31) : Dev nD := ⟨(c.val + 31 - r.val) % 32, Nat.mod_lt _ (by decide)⟩

/-- The other devices, in the order in which `c` signals them and copies to them; and in that in which it waits for them. -/
def peers (c : Dev nD) : List (Dev nD) := (List.finRange 31).map (after c)
def froms (c : Dev nD) : List (Dev nD) := (List.finRange 31).map (before c)

/-- Each list names every other device once. -/
theorem peers_nodup : ∀ c : Dev nD, (peers c).Nodup := by decide +kernel
theorem froms_nodup : ∀ c : Dev nD, (froms c).Nodup := by decide +kernel
theorem peers_univ : ∀ c : Dev nD, Finset.univ.erase c = (peers c).toFinset := by decide +kernel
theorem froms_univ : ∀ c : Dev nD, Finset.univ.erase c = (froms c).toFinset := by decide +kernel

theorem rawSigs_eq : ∀ c : Dev nD, rawSigs c = peers c := by decide +kernel
theorem rawSends_eq : ∀ c : Dev nD, rawSends c = (List.finRange 31).map fun r => (after c r, r) := by decide +kernel
theorem off1_eq : ∀ (c : Dev nD) (r : Fin 31), k0_off1 c (BitVec.ofNat 32 (1 + r.val)) = ![(after c r).val] := by decide +kernel
theorem off4_eq : ∀ (c : Dev nD) (r : Fin 31), k0_off4 c (BitVec.ofNat 32 (1 + r.val)) = ![0, 256 * (after c r).val] := by decide +kernel
theorem off7_eq : ∀ (c : Dev nD) (r : Fin 31), k0_off7 c (BitVec.ofNat 32 (1 + r.val)) = ![(before c r).val] := by decide +kernel
theorem off8_eq : ∀ (c : Dev nD) (r : Fin 31), k0_off8 c (BitVec.ofNat 32 (1 + r.val)) = ![256 * (before c r).val, 0] := by decide +kernel
theorem steps_eq : ([0, 1, 2, 3, 4, 5, 6, 7, 8, 9, 10, 11, 12, 13, 14, 15, 16, 17, 18, 19, 20, 21, 22, 23, 24, 25, 26, 27, 28, 29, 30] : List (Fin 31)) = List.finRange 31 := by decide +kernel

theorem inb_x : ∀ j : Dev nD, ∀ a, (![0, 256 * j.val] : Fin 2 → ℕ) a + S256x256.size a ≤ S256x8192.size a := by decide +kernel
theorem inb_o : ∀ j : Dev nD, ∀ a, (![256 * j.val, 0] : Fin 2 → ℕ) a + S256x256.size a ≤ S8192x256.size a := by decide +kernel
theorem inb_s : ∀ j : Dev nD, ∀ a, (![j.val] : Fin 1 → ℕ) a + S1.size a ≤ S32.size a := by decide +kernel

/-! ## The program in closed form -/

/-- Columns `256 j …` of the argument, rows `256 j …` of the result, and the two semaphores that stand for device `j`. -/
abbrev xBlk (j : Dev nD) : Memref sig .tc .vmem S256x256 .f32 := xAt ![0, 256 * j.val] (inb_x j)
abbrev oBlk (j : Dev nD) : Memref sig .tc .vmem S256x256 .f32 := oAt ![256 * j.val, 0] (inb_o j)
abbrev sendS (j : Dev nD) : DmaSem sig := semAt cc0_scratch0 ![j.val] (inb_s j)
abbrev recvS (j : Dev nD) : DmaSem sig := semAt cc0_scratch1 ![j.val] (inb_s j)

/-- Device `c`'s copy to device `j`, its wait for device `j`'s copy, and its wait for its own copy to device `j`. -/
abbrev sendOp (c j : Dev nD) : TpuEff nD τ sig (Elt F) Λ₀ .tc PUnit := sendAt ![0, 256 * j.val] (inb_x j) ![256 * c.val, 0] (inb_o c) ![j.val] (inb_s j) ![c.val] (inb_s c) j
abbrev recvOp (j : Dev nD) : TpuEff nD τ sig (Elt F) Λ₀ .tc PUnit := recvAt ![j.val] (inb_s j) ![256 * j.val, 0] (inb_o j)
abbrev doneOp (j : Dev nD) : TpuEff nD τ sig (Elt F) Λ₀ .tc PUnit := doneAt ![j.val] (inb_s j) ![0, 256 * j.val] (inb_x j)

/-- The body on device `c`: signal every other device and wait for their signals; copy each its block; store the own
    block; wait for every other device's copy, and for the own ones. -/
def body (c : Dev nD) : Prog (TpuEff nD τ sig (Elt F) Λ₀ .tc) PUnit :=
  runAll sigAt (peers c) <| .op (.semWait barS (31#32 : BitVec 32).toInt) fun _ =>
  runAll (sendOp c) (peers c) <|
  ownAt ![0, 256 * c.val] (inb_x c) ![256 * c.val, 0] (inb_o c) <|
  runAll recvOp (froms c) <| runAll doneOp (peers c) <| .ret ⟨⟩

theorem rawBody_eq (c : Dev nD) : rawBody (F := F) c = body c := by
  unfold rawBody body
  rw [rawSigs_eq, rawSends_eq, steps_eq, runAll_map]
  simp only [off1_eq, off4_eq, off7_eq, off8_eq, k0_off2_eq, k0_off3_eq, k0_off5_eq, k0_off6_eq]
  unfold peers froms
  simp only [runAll_map]

/-- The printed body is `body` at the device it asks for. -/
theorem cc0_body_eq : cc0_body (F := F) xM (Memref.isWhole_whole _) oM (Memref.isWhole_whole _) cc0_scratch0 cc0_scratch1
    = .op .deviceId body := by
  rw [cc0_body_raw]; exact congrArg _ (funext rawBody_eq)

end Cert.Exchange.KernelIdeal

end
-- ==== Proof.KernelIdeal.Protocol.lean ====
/-
The exchange of `KernelIdeal` as a protocol of rounds.

Device `c` has one barrier cell, and for each other device `d` a send cell (its copy to `d`) and a receive cell (the copy from
`d`). At the barrier each other device `d` gives `c` the block of ITS result that `c`'s copy lands in; the copy of `c` to
`d` gives `d` that block filled, and `c` its own block of the argument back. This module states the contents the copies
leave, the schedule that says what each duty hands over, what each device owes and in which order its waits may come.
-/
module

public import proofs.«01_k».proof.Proof.KernelIdeal.Program
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Pipeline.Value
public import Idealize.ShloMosaic.Lib.Ring
public import Idealize.ShloMosaic.Lib.Tactic

@[expose] public section

noncomputable section

namespace Cert.Exchange.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, and the exchange's, whose duties are named by the paying device -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The cells -/

abbrev barCell (c : Dev nD) : GSem nD τ sig := ((c : Thread nD τ), .reg barS)
abbrev sendCell (c j : Dev nD) : GSem nD τ sig := ((c : Thread nD τ), .dma (sendS j))
abbrev recvCell (c k : Dev nD) : GSem nD τ sig := ((c : Thread nD τ), .dma (recvS k))

theorem sendS_val : ∀ j : Dev nD, (sendS j).val = 2 + j.val := by decide +kernel
theorem recvS_val : ∀ j : Dev nD, (recvS j).val = 34 + j.val := by decide +kernel

/-- The device a send or receive semaphore stands for. -/
def slot (q : DmaSem sig) : Dev nD := ⟨(q.val + 30) % 32, Nat.mod_lt _ (by decide)⟩
theorem slot_send (j : Dev nD) : slot (sendS j) = j := by
  have hj : j.val < 32 := j.isLt
  refine Fin.ext ?_; show ((sendS j).val + 30) % 32 = j.val; rw [sendS_val]; omega
theorem slot_recv (j : Dev nD) : slot (recvS j) = j := by
  have hj : j.val < 32 := j.isLt
  refine Fin.ext ?_; show ((recvS j).val + 30) % 32 = j.val; rw [recvS_val]; omega
theorem send_low (j : Dev nD) : (sendS j).val < 34 := by
  have hj : j.val < 32 := j.isLt
  rw [sendS_val]; omega
theorem recv_high (j : Dev nD) : ¬ (recvS j).val < 34 := by rw [recvS_val]; omega

/-- What one block's copy credits. -/
abbrev N : ℕ := (oBlk 0).view.dmaCredit
theorem N_pos : 0 < N := View.dmaCredit_pos _ (by decide)
theorem credit_o (j : Dev nD) : (oBlk j).view.dmaCredit = N := rfl
theorem credit_x (j : Dev nD) : (xBlk j).view.dmaCredit = N := rfl

/-! ## Contents -/

/-- The argument as staged on device `c`. -/
def xstg (c : Dev nD) : (cc0_stg0_0 : Ref sig .tc).ty.Contents (Elt F) :=
  (win0_0.blk (0 : Fin 1)).view.read (Elt F) ((s₀ m ρ).mem ((c : Thread nD τ).loc main_arg0))

set_option backward.proofsInPublic true in
/-- The device whose rows a row of the result is among, and the index inside the block. -/
def rowDev (i : S8192x256.Idx) : Dev nD := ⟨(i 0).val / 256, by have h : (i 0).val < 8192 := (i 0).isLt; exact (Nat.div_lt_iff_lt_mul (by decide)).mpr h⟩
set_option backward.proofsInPublic true in
def inBlk (i : S8192x256.Idx) : S256x256.Idx
  | ⟨0, _⟩ => ⟨(i 0).val % 256, Nat.mod_lt _ (by decide)⟩
  | ⟨1, _⟩ => i 1
  | ⟨_ + 2, h⟩ => absurd h (Nat.not_lt.2 (Nat.le_add_left _ _))

set_option backward.proofsInPublic true in
/-- The device whose columns a column of the argument is among. -/
def colDev (i : S256x8192.Idx) : Dev nD := ⟨(i 1).val / 256, by have h : (i 1).val < 8192 := (i 1).isLt; exact (Nat.div_lt_iff_lt_mul (by decide)).mpr h⟩

/-- The result on device `c`: rows `256 k …` are columns `256 c …` of device `k`'s argument. -/
def outAt (c : Dev nD) : (cc0_stg1_0 : Ref sig .tc).ty.Contents (Elt F) := fun i =>
  (xBlk c).view.read (Elt F) (xstg m ρ (rowDev i)) (inBlk i)

theorem row_emb (k : Dev nD) (y : S256x256.Idx) : rowDev ((oBlk k).view.emb y) = k := by
  have hy : (y 0).val < 256 := (y 0).isLt
  refine Fin.ext ?_
  show (256 * k.val + 1 * (y 0).val) / 256 = k.val
  omega
theorem in_emb (k : Dev nD) (y : S256x256.Idx) : inBlk ((oBlk k).view.emb y) = y := by
  have hy : (y 0).val < 256 := (y 0).isLt
  funext a
  match a with
  | ⟨0, _⟩ => refine Fin.ext ?_; show (256 * k.val + 1 * (y 0).val) % 256 = (y 0).val; omega
  | ⟨1, _⟩ => refine Fin.ext ?_; show 0 + 1 * (y 1).val = (y 1).val; omega

omit [FloatOps F] in
/-- Block `k` of the result on device `c` is block `c` of device `k`'s argument. -/
theorem read_outAt (c k : Dev nD) : (oBlk k).view.read (Elt F) (outAt m ρ c) = (xBlk c).view.read (Elt F) (xstg m ρ k) := by
  funext y
  show outAt m ρ c ((oBlk k).view.emb y) = _
  unfold outAt
  rw [row_emb, in_emb]

/-- Block `j` of the argument on device `c`, held; block `k` of the result on device `c`, held at `f`. -/
def xPts (c j : Dev nD) : sProp 𝕄 := (xBlk j).view.loc (c : Thread nD τ) ↦[(xBlk j).view.set]{fullShare} xstg m ρ c
def oPts (c k : Dev nD) (f : Buf (Elt F) ((oBlk k).view.loc (c : Thread nD τ))) : sProp 𝕄 :=
  (oBlk k).view.loc (c : Thread nD τ) ↦[(oBlk k).view.set]{fullShare} f

omit [FloatOps F] in
instance xPts_storable (c j : Dev nD) : BI.Storable (upEmb : UEmb _ 𝕄) (xPts (F := F) m ρ c j) := by unfold xPts; infer_instance
omit [FloatOps F] in
instance oPts_storable (c k : Dev nD) (f) : BI.Storable (upEmb : UEmb _ 𝕄) (oPts (F := F) c k f) := by unfold oPts; infer_instance

omit [FloatOps F] in
/-- Block `k` of device `c`'s result with block `c` of device `k`'s argument written to it holds the result there. -/
theorem landed (c k : Dev nD) (f : Buf (Elt F) ((oBlk k).view.loc (c : Thread nD τ))) :
    ((oBlk k).view.loc (c : Thread nD τ) ↦[(oBlk k).view.set]{fullShare}
        (oBlk k).view.write (Elt F) f ((xBlk c).view.read (Elt F) (xstg m ρ k)) Finset.univ : sProp 𝕄) = oPts c k (outAt m ρ c) := by
  unfold oPts
  refine pointsTo_congr fun i hi => ?_
  rw [← read_outAt, View.write_read_eq_piecewise]
  exact Finset.piecewise_eq_of_mem _ _ _ hi

/-! ## The buffers cut in blocks -/

theorem x_set (j : Dev nD) (i : S256x8192.Idx) : i ∈ (xBlk j).view.set ↔ (i 1).val / 256 = j.val := by
  have h0 : (i 0).val < 256 := (i 0).isLt
  show i ∈ ((View.whole cc0_stg0_0).slice (Rect.unit (s := S256x8192) ![0, 256 * j.val] S256x256.size (inb_x j))).set ↔ _
  rw [View.set_slice_whole, Rect.mem_set_unit]
  constructor
  · intro h
    have h1 : 256 * j.val ≤ (i 1).val ∧ (i 1).val < 256 * j.val + 256 := h 1
    omega
  · intro h a
    match a with
    | ⟨0, _⟩ => exact ⟨Nat.zero_le _, show (i 0).val < 0 + 256 by omega⟩
    | ⟨1, _⟩ => exact ⟨show 256 * j.val ≤ (i 1).val by omega, show (i 1).val < 256 * j.val + 256 by omega⟩

theorem o_set (k : Dev nD) (i : S8192x256.Idx) : i ∈ (oBlk k).view.set ↔ (i 0).val / 256 = k.val := by
  have h0 : (i 1).val < 256 := (i 1).isLt
  show i ∈ ((View.whole cc0_stg1_0).slice (Rect.unit (s := S8192x256) ![256 * k.val, 0] S256x256.size (inb_o k))).set ↔ _
  rw [View.set_slice_whole, Rect.mem_set_unit]
  constructor
  · intro h
    have h1 : 256 * k.val ≤ (i 0).val ∧ (i 0).val < 256 * k.val + 256 := h 0
    omega
  · intro h a
    match a with
    | ⟨0, _⟩ => exact ⟨show 256 * k.val ≤ (i 0).val by omega, show (i 0).val < 256 * k.val + 256 by omega⟩
    | ⟨1, _⟩ => exact ⟨Nat.zero_le _, show (i 1).val < 0 + 256 by omega⟩

omit [FloatOps F] in
/-- The staged argument, held whole, is its 32 blocks held; -/
theorem x_split (c : Dev nD) : (((c : Thread nD τ).loc cc0_stg0_0) ↦{fullShare} xstg m ρ c : sProp 𝕄) = bigSep Finset.univ fun j => xPts m ρ c j := by
  unfold xPts
  generalize xstg m ρ c = f
  exact Ring.pointsTo_blocks (ℓ := (c : Thread nD τ).loc cc0_stg0_0) (fun j : Dev nD => (xBlk j).view.set)
    (fun j j' h => Finset.disjoint_left.mpr fun i hi hi' => h (Fin.ext (((x_set j i).mp hi).symm.trans ((x_set j' i).mp hi'))))
    (Finset.eq_univ_iff_forall.mpr fun (i : S256x8192.Idx) => Finset.mem_biUnion.mpr ⟨colDev i, Finset.mem_univ _, (x_set _ i).mpr rfl⟩) f

omit [FloatOps F] in
/-- and so is the staged result, at any contents. -/
theorem o_split (c : Dev nD) (f : Buf (Elt F) ((c : Thread nD τ).loc cc0_stg1_0)) :
    (((c : Thread nD τ).loc cc0_stg1_0) ↦{fullShare} f : sProp 𝕄) = bigSep Finset.univ fun k => oPts c k f :=
  Ring.pointsTo_blocks (ℓ := (c : Thread nD τ).loc cc0_stg1_0) (fun k : Dev nD => (oBlk k).view.set)
    (fun j j' h => Finset.disjoint_left.mpr fun i hi hi' => h (Fin.ext (((o_set j i).mp hi).symm.trans ((o_set j' i).mp hi'))))
    (Finset.eq_univ_iff_forall.mpr fun (i : S8192x256.Idx) => Finset.mem_biUnion.mpr ⟨rowDev i, Finset.mem_univ _, (o_set _ i).mpr rfl⟩) f

/-! ## The schedule -/

/-- What device `d`'s signal hands device `c`: the block of `d`'s result that `c` writes. -/
def barPay (c d : Dev nD) : sProp 𝕄 := iprop(∃ f, oPts d c f)

/-- One round. A barrier cell has a duty of one unit from every other device. The receive cell for another device has one
    duty, that device's: the block it wrote. The send cell for another device has one duty, its own device's: the
    block it read. -/
def sched : Rounds.Schedule (GSem nD τ sig) (Dev nD) 𝕄 where
  duties g r := if r = 0 then (match g.2 with
    | .reg _ => Finset.univ.erase g.1.1
    | .dma q => if slot q = g.1.1 then ∅ else {if q.val < 34 then g.1.1 else slot q}) else ∅
  unitless _ := False
  amount g _ _ := match g.2 with
    | .reg _ => 1
    | .dma _ => N
  payload g _ d := match g.2 with
    | .reg _ => barPay g.1.1 d
    | .dma q => if q.val < 34 then xPts m ρ g.1.1 (slot q) else oPts g.1.1 (slot q) (outAt m ρ g.1.1)
  amount_pos g _ _ _ := by
    rcases g with ⟨t, s | q⟩
    · exact Nat.one_pos
    · exact N_pos

omit [FloatOps F] in
instance sched_storable (g : GSem nD τ sig) (r : ℕ) (d : Dev nD) : BI.Storable (upEmb : UEmb _ 𝕄) ((sched (F := F) m ρ).payload g r d) := by
  rcases g with ⟨t, s | q⟩
  · show BI.Storable upEmb (barPay t.1 d)
    unfold barPay; infer_instance
  · show BI.Storable upEmb (if q.val < 34 then xPts m ρ t.1 (slot q) else oPts t.1 (slot q) (outAt m ρ t.1))
    split <;> infer_instance

section Sched
omit [FloatOps F]
variable (c d : Dev nD)

theorem duties_bar : (sched (F := F) m ρ).duties (barCell c) 0 = Finset.univ.erase c := rfl
theorem duties_send (h : d ≠ c) : (sched (F := F) m ρ).duties (sendCell c d) 0 = {c} := by
  show (if slot (sendS d) = c then ∅ else {if (sendS d).val < 34 then c else slot (sendS d)} : Finset (Dev nD)) = {c}
  rw [slot_send, if_neg h, if_pos (send_low d)]
theorem duties_recv (h : d ≠ c) : (sched (F := F) m ρ).duties (recvCell c d) 0 = {d} := by
  show (if slot (recvS d) = c then ∅ else {if (recvS d).val < 34 then c else slot (recvS d)} : Finset (Dev nD)) = {d}
  rw [slot_recv, if_neg h, if_neg (recv_high d)]
theorem duties_own_send (r : ℕ) : (sched (F := F) m ρ).duties (sendCell c c) r = ∅ := by
  show (if r = 0 then (if slot (sendS c) = c then ∅ else {if (sendS c).val < 34 then c else slot (sendS c)}) else ∅ : Finset (Dev nD)) = ∅
  rw [slot_send, if_pos rfl, ite_self]
theorem duties_own_recv (r : ℕ) : (sched (F := F) m ρ).duties (recvCell c c) r = ∅ := by
  show (if r = 0 then (if slot (recvS c) = c then ∅ else {if (recvS c).val < 34 then c else slot (recvS c)}) else ∅ : Finset (Dev nD)) = ∅
  rw [slot_recv, if_pos rfl, ite_self]
theorem duties_later (g : GSem nD τ sig) : ∀ r, 1 ≤ r → (sched (F := F) m ρ).duties g r = ∅ :=
  fun r hr => if_neg (by omega)

theorem payload_bar : (sched (F := F) m ρ).payload (barCell d) 0 c = barPay d c := rfl
theorem payload_send (e : Dev nD) : (sched (F := F) m ρ).payload (sendCell c d) 0 e = xPts m ρ c d := by
  show (if (sendS d).val < 34 then xPts m ρ c (slot (sendS d)) else oPts c (slot (sendS d)) (outAt m ρ c)) = _
  rw [if_pos (send_low d), slot_send]
theorem payload_recv (e : Dev nD) : (sched (F := F) m ρ).payload (recvCell c d) 0 e = oPts c d (outAt m ρ c) := by
  show (if (recvS d).val < 34 then xPts m ρ c (slot (recvS d)) else oPts c (slot (recvS d)) (outAt m ρ c)) = _
  rw [if_neg (recv_high d), slot_recv]

theorem expect_bar : (sched (F := F) m ρ).expect (barCell c) 0 = 31 := by
  unfold Schedule.expect Schedule.amountOf
  rw [duties_bar]
  refine (Finset.sum_eq_card_nsmul (b := 1) fun d _ => rfl).trans ?_
  rw [Finset.card_erase_of_mem (Finset.mem_univ c), Finset.card_univ, Fintype.card_fin, smul_eq_mul]
  rfl
theorem expect_send (h : d ≠ c) : (sched (F := F) m ρ).expect (sendCell c d) 0 = N := by
  unfold Schedule.expect Schedule.amountOf; rw [duties_send m ρ c d h, Finset.sum_singleton]; rfl
theorem expect_recv (h : d ≠ c) : (sched (F := F) m ρ).expect (recvCell c d) 0 = N := by
  unfold Schedule.expect Schedule.amountOf; rw [duties_recv m ρ c d h, Finset.sum_singleton]; rfl

/-- What a device takes out of its barrier cell, of a send cell and of a receive cell. -/
theorem rest_bar : bigSep ((sched (F := F) m ρ).duties (barCell c) 0 \ ∅) (fun e => (sched (F := F) m ρ).payload (barCell c) 0 e)
    = bigSepL (peers c) fun e => barPay c e := by
  rw [Finset.sdiff_empty, duties_bar, bigSep_eq_bigSepL_of_eq (peers c) (peers_univ c) (peers_nodup c)]; rfl
theorem rest_send (h : d ≠ c) : bigSep ((sched (F := F) m ρ).duties (sendCell c d) 0 \ ∅) (fun e => (sched (F := F) m ρ).payload (sendCell c d) 0 e)
    = xPts m ρ c d := by
  rw [Finset.sdiff_empty, duties_send m ρ c d h, bigSep_singleton, payload_send]
theorem rest_recv (h : d ≠ c) : bigSep ((sched (F := F) m ρ).duties (recvCell c d) 0 \ ∅) (fun e => (sched (F := F) m ρ).payload (recvCell c d) 0 e)
    = oPts c d (outAt m ρ c) := by
  rw [Finset.sdiff_empty, duties_recv m ρ c d h, bigSep_singleton, payload_recv]

end Sched

/-! ## What a device owes, and the order of the waits -/

/-- The copies to the devices of a list, and the signals to them. -/
def oweSend (c : Dev nD) (l : List (Dev nD)) : CellTallies nD τ sig Unit := (l.map fun d => tallyAt (recvCell d c) () N).sum
def oweBar (l : List (Dev nD)) : CellTallies nD τ sig Unit := (l.map fun d => tallyAt (barCell d) () 1).sum
/-- At launch: both, to every other device. -/
def O₀ (c : Dev nD) : CellTallies nD τ sig Unit := oweSend c (peers c) + oweBar (peers c)

def L (g : GSem nD τ sig) : Finset Unit := if g.1.2 = .tc then {()} else ∅
/-- Barrier cells at 1, receive cells at 2, staging and send cells at 0. -/
def lv (g : GSem nD τ sig) (_ : Unit) : ℕ := match g.2 with
  | .reg _ => 1
  | .dma q => if q.val < 34 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_recv (c d : Dev nD) (u : Unit) : lv (recvCell c d) u = 2 := if_neg (recv_high d)

/-- A cell a sum of tallies touches is one of the tallies'. -/
theorem sum_pos {f : Dev nD → GSem nD τ sig} {n : ℕ} {l : List (Dev nD)} {g : GSem nD τ sig} {u : Unit}
    (h : 0 < (l.map fun d => (tallyAt (f d) () n : CellTallies nD τ sig Unit)).sum g u) : ∃ d, g = f d := by
  induction l with
  | nil => exact absurd h (Nat.lt_irrefl 0)
  | cons a l ih =>
    rw [List.map_cons, List.sum_cons, Pi.add_apply, Finsupp.add_apply, tallyAt_apply] at h
    by_cases hg : g = f a
    · exact ⟨a, hg⟩
    · rw [if_neg (fun h' => hg h'.1), Nat.zero_add] at h; exact ih h

theorem oweSend_pos {c : Dev nD} {l : List (Dev nD)} {g : GSem nD τ sig} {u : Unit} (h : 0 < oweSend c l g u) : ∃ d, g = recvCell d c :=
  sum_pos (f := fun d => recvCell d c) h
theorem O₀_pos {c : Dev nD} {g : GSem nD τ sig} {u : Unit} (h : 0 < O₀ c g u) : (∃ d, g = recvCell d c) ∨ ∃ d, g = barCell d := by
  unfold O₀ at h
  rw [Pi.add_apply, Finsupp.add_apply] at h
  rcases Nat.eq_zero_or_pos (oweSend c (peers c) g u) with h0 | h0
  · rw [h0, Nat.zero_add] at h; exact .inr (sum_pos (f := fun d => barCell d) h)
  · exact .inl (oweSend_pos h0)

omit [FloatOps F] in
/-- A device may wait on a staging cell with all it owes at launch, or nothing; -/
theorem mayWait_stage (c : Dev nD) (q : DmaSem sig) (hq : q.val < 34) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by rw [Finset.mem_singleton.mp hp]; exact (if_pos hq).le)
      (fun g u hg => by
        rcases O₀_pos hg with ⟨d, rfl⟩ | ⟨d, rfl⟩
        · rw [lv_recv]; decide
        · exact Nat.one_pos)
  · rw [MayWait_zero]; iintro -; iempintro

omit [FloatOps F] in
/-- and on its barrier cell owing its copies only. -/
theorem mayWait_bar (c : Dev nD) (l : List (Dev nD)) :
    (levAts L lv : sProp 𝕄) ⊢ MayWait (c : Thread nD τ) (.reg barS) () (oweSend c l) :=
  MayOwe.of_cut (L := L) (lev := lv) 1 (fun p hp => by rw [Finset.mem_singleton.mp hp, L_tc]; exact Finset.mem_singleton_self _)
    (fun g u hg => by obtain ⟨d, rfl⟩ := oweSend_pos hg; exact Finset.mem_singleton_self _)
    (fun p hp => by rw [Finset.mem_singleton.mp hp]; exact le_refl 1)
    (fun g u hg => by obtain ⟨d, rfl⟩ := oweSend_pos hg; rw [lv_recv]; decide)

/-! ## The cells indexed, and the pipeline's proof data -/

/-- A device's cells: its barrier's, its send cells, its receive cells. -/
abbrev Cix : Type := Unit ⊕ (Dev nD ⊕ Dev nD)
abbrev csem : Cix → SemLoc sig := fun
  | .inl _ => .reg barS
  | .inr (.inl j) => .dma (sendS j)
  | .inr (.inr k) => .dma (recvS k)
abbrev kcell (x : Dev nD × Cix) : GSem nD τ sig := ((x.1 : Thread nD τ), csem x.2)

theorem csem_injective : Function.Injective csem := by
  have hs {j j' : Dev nD} (h : sendS j = sendS j') : j = j' := by rw [← slot_send j, h, slot_send]
  have hr {j j' : Dev nD} (h : recvS j = recvS j') : j = j' := by rw [← slot_recv j, h, slot_recv]
  have hn (j j' : Dev nD) (h : sendS j = recvS j') : False := recv_high j' (h ▸ send_low j)
  rintro (u | j | k) (u' | j' | k') h
  · rfl
  · cases h
  · cases h
  · cases h
  · rw [hs (SemLoc.dma.inj h)]
  · exact (hn _ _ (SemLoc.dma.inj h)).elim
  · cases h
  · exact (hn _ _ (SemLoc.dma.inj h).symm).elim
  · rw [hr (SemLoc.dma.inj h)]

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- What every device knows: each cell's invariant, and that each cell has reached round 0. -/
def records (K : Dev nD × Cix → ℕ) : sProp 𝕄 :=
  iprop((bigSep Finset.univ fun x : Dev nD × Cix => cellInv ER (sched m ρ) (K x) (kcell x))
    ∗ bigSep Finset.univ fun x : Dev nD × Cix => reached ER (kcell x) 0)

omit [FloatOps F] in
instance records_persistent (K : Dev nD × Cix → ℕ) : BI.Persistent (records (F := F) m ρ K) := by unfold records; infer_instance

omit [FloatOps F] in
theorem records_inv (K : Dev nD × Cix → ℕ) (x : Dev nD × Cix) : (records (F := F) m ρ K : sProp 𝕄) ⊢ cellInv ER (sched m ρ) (K x) (kcell x) := by
  unfold records; iintro ⟨H, -⟩
  have h : (bigSep Finset.univ fun x : Dev nD × Cix => (cellInv ER (sched m ρ) (K x) (kcell x) : sProp 𝕄)) ⊢ cellInv ER (sched m ρ) (K x) (kcell x) :=
    bigSep_elim (Finset.mem_univ x)
  iapply h; iexact H
omit [FloatOps F] in
theorem records_reached (K : Dev nD × Cix → ℕ) (x : Dev nD × Cix) : (records (F := F) m ρ K : sProp 𝕄) ⊢ reached ER (kcell x) 0 := by
  unfold records; iintro ⟨-, H⟩
  have h : (bigSep Finset.univ fun x : Dev nD × Cix => (reached ER (kcell x) 0 : sProp 𝕄)) ⊢ reached ER (kcell x) 0 := bigSep_elim (Finset.mem_univ x)
  iapply h; iexact H

/-- The tokens of the duties device `c` pays to device `d`: the signal, the copy's arrival there, its departure here. -/
def payTok (c d : Dev nD) : sProp 𝕄 :=
  iprop(dutyTok ER (barCell d) 0 c ∗ dutyTok ER (recvCell d c) 0 c ∗ dutyTok ER (sendCell c d) 0 c)

/-- What device `c` alone holds: its place at every cell of its own, and those tokens. -/
def linear (c : Dev nD) : sProp 𝕄 :=
  iprop((bigSep Finset.univ fun k : Cix => atPos ER (kcell (c, k)) 0 ∅ 0) ∗ bigSep Finset.univ fun d : Dev nD => payTok c d)

/-- What device `c`'s body starts from: that, the credit of the signals and copies it is owed, and the order of waits. -/
def start (c : Dev nD) : sProp 𝕄 :=
  iprop((∃ K, records m ρ K ∗ linear c) ∗ cred (tallyAt (barCell c) () 31)
    ∗ (bigSep (Finset.univ.erase c) fun k => cred (tallyAt (recvCell c k) () N)) ∗ levAts L lv)

/-- After the body: every cell of its own at zero. -/
def finish (c : Dev nD) : sProp 𝕄 := bigSep Finset.univ fun k : Cix => semVal (kcell (c, k)) 0

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => start m ρ c
    | ⟨_ + 1, _⟩ => finish c
  q _ := fullShare
  owed t := match t with
    | ⟨0, _⟩ => O₀ c
    | ⟨_ + 1, _⟩ => 0

abbrev 𝒱₀ : Variants := Variants.none

end Cert.Exchange.KernelIdeal

end
-- ==== Proof.KernelIdeal.Body.lean ====
/-
The body of `KernelIdeal` proved against the exchange's protocol.

Each of the four loops is one lemma for its step, at any device and any peer, and one induction over lists for all of
them (`wp_runAll`). Between the loops the buffers are held block by block.
-/
module

public import proofs.«01_k».proof.Proof.KernelIdeal.Protocol
public import proofs.«01_k».proof.Proof.Gen.KernelIdeal.Points
public import Idealize.ShloMosaic.Lib.Memref

@[expose] public section

noncomputable section

namespace Cert.Exchange.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Loops over lists -/

/-- That device `c`'s program `p` runs to a result that satisfies `Q`. -/
abbrev runs (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-- A loop whose step turns `Pre a` into `Post a`, and the state `X` of the list into that of its tail, turns every `Pre` into
    its `Post`. -/
theorem wp_runAll {α : Type} (c : Dev nD) (op : α → TpuEff nD τ sig (Elt F) Λ₀ .tc PUnit) (R : sProp 𝕄) [BI.Persistent R]
    (X : List α → sProp 𝕄) (Pre Post : α → sProp 𝕄) (S : α → Prop)
    (step : ∀ (a : α) (l : List α) (k : Prog (TpuEff nD τ sig (Elt F) Λ₀ .tc) PUnit) (Q : PUnit → sProp 𝕄), S a →
      iprop(R ∗ X (a :: l) ∗ Pre a) ⊢ iprop(((X l ∗ Post a) -∗ runs c k Q) -∗ runs c (.op (op a) fun _ => k) Q))
    (k : Prog (TpuEff nD τ sig (Elt F) Λ₀ .tc) PUnit) (Q : PUnit → sProp 𝕄) (l : List α) (hl : ∀ a ∈ l, S a) :
    iprop(R ∗ X l ∗ bigSepL l Pre) ⊢ iprop(((X [] ∗ bigSepL l Post) -∗ runs c k Q) -∗ runs c (runAll op l k) Q) := by
  induction l with
  | nil =>
    rw [bigSepL_nil, bigSepL_nil]
    iintro ⟨-, HX, -⟩ Hk
    iapply Hk
    isplitl [HX]; · iexact HX
    iempintro
  | cons a l ih =>
    rw [bigSepL_cons' a l Pre, bigSepL_cons' a l Post]
    iintro ⟨#HR, HX, Ha, Hl⟩ Hk
    iapply (step a l (runAll op l k) Q (hl a (List.mem_cons_self ..))) $$ [HX Ha]
    · isplitr; · iexact HR
      isplitl [HX] <;> iassumption
    iintro ⟨HX, Ha⟩
    iapply (ih fun b hb => hl b (List.mem_cons_of_mem a hb)) $$ [HX Hl]
    · isplitr; · iexact HR
      isplitl [HX] <;> iassumption
    iintro ⟨HX, Hl⟩
    iapply Hk
    isplitl [HX]; · iexact HX
    isplitl [Ha] <;> iassumption

omit [FloatOps F] in
theorem sep_swap (A B C D : sProp 𝕄) : iprop((A ∗ B) ∗ C ∗ D) ⊢ iprop((A ∗ C) ∗ B ∗ D) := by
  iintro ⟨⟨H1, H2⟩, H3, H4⟩
  isplitl [H1 H3]; · isplitl [H1] <;> iassumption
  isplitl [H2] <;> iassumption

omit [FloatOps F] in
theorem bigSepL_sep (l : List (Dev nD)) (Φ Ψ : Dev nD → sProp 𝕄) : bigSepL l (fun d => iprop(Φ d ∗ Ψ d)) = iprop(bigSepL l Φ ∗ bigSepL l Ψ) := by
  induction l with
  | nil => exact (equiv_iff.mp emp_sep).symm
  | cons a l ih =>
    rw [bigSepL_cons' a l, bigSepL_cons' a l, bigSepL_cons' a l, ih]
    exact equiv_iff.mp ⟨sep_swap _ _ _ _, sep_swap _ _ _ _⟩

omit [FloatOps F] in
/-- One resource per device: the own one, and the others' in either order. -/
theorem at_peers (c : Dev nD) (Φ : Dev nD → sProp 𝕄) : bigSep Finset.univ Φ = iprop(Φ c ∗ bigSepL (peers c) Φ) := by
  rw [bigSep_univ_at Φ c, bigSep_eq_bigSepL_of_eq (peers c) (peers_univ c) (peers_nodup c)]
omit [FloatOps F] in
theorem at_froms (c : Dev nD) (Φ : Dev nD → sProp 𝕄) : bigSep Finset.univ Φ = iprop(Φ c ∗ bigSepL (froms c) Φ) := by
  rw [bigSep_univ_at Φ c, bigSep_eq_bigSepL_of_eq (froms c) (froms_univ c) (froms_nodup c)]

theorem peers_ne (c : Dev nD) : ∀ d ∈ peers c, d ≠ c := fun d hd => Finset.ne_of_mem_erase (by rw [peers_univ c]; exact List.mem_toFinset.mpr hd)
theorem froms_ne (c : Dev nD) : ∀ d ∈ froms c, d ≠ c := fun d hd => Finset.ne_of_mem_erase (by rw [froms_univ c]; exact List.mem_toFinset.mpr hd)

/-! ## The steps -/

theorem oweBar_cons (O : CellTallies nD τ sig Unit) (a : Dev nD) (l : List (Dev nD)) : O + oweBar (a :: l) = O + oweBar l + tallyAt (barCell a) () 1 := by
  unfold oweBar; rw [List.map_cons, List.sum_cons, add_comm (tallyAt _ _ _), add_assoc]
theorem oweSend_cons (c a : Dev nD) (l : List (Dev nD)) : oweSend c (a :: l) = oweSend c l + tallyAt (recvCell a c) () N := by
  unfold oweSend; rw [List.map_cons, List.sum_cons, add_comm]

section Steps
variable (K : Dev nD × Cix → ℕ) (c : Dev nD)

/-- A signal to device `a` gives it the block of the own result that `a` writes. -/
theorem sig_step (O : CellTallies nD τ sig Unit) (W : Waits sig Unit) (a : Dev nD) (l : List (Dev nD))
    (k : Prog (TpuEff nD τ sig (Elt F) Λ₀ .tc) PUnit) (Q : PUnit → sProp 𝕄) (ha : a ≠ c) :
    iprop(records m ρ K ∗ owes (c : Thread nD τ) (O + oweBar (a :: l)) W ∗ (dutyTok ER (barCell a) 0 c ∗ ∃ f, oPts c a f))
      ⊢ iprop(((owes (c : Thread nD τ) (O + oweBar l) W ∗ emp) -∗ runs c k Q) -∗ runs c (.op (sigAt a) fun _ => k) Q) := by
  iintro ⟨#HR, HO, Ht, Hf⟩ Hk
  unfold sigAt
  iapply (Rounds.wp_signal 𝒱₀ ER (sched m ρ) (c : Thread nD τ) none (dst := (a : Thread nD τ)) (κ := K (a, .inl ()))
      (d := c) (r := 0) (k' := 1) (by rw [duties_bar]; exact Finset.mem_erase.mpr ⟨ha.symm, Finset.mem_univ _⟩)
      rfl () (O₀ := O + oweBar (a :: l)) (O + oweBar l) (oweBar_cons O a l)) $$ [HO Ht Hf]
  · isplitr; · iapply (records_inv m ρ K (a, .inl ())); iexact HR
    isplitl [HO]; · iexact HO
    isplitl [Ht]; · iexact Ht
    isplitl [Hf]; · rw [payload_bar]; unfold barPay; iexact Hf
    iapply (records_reached m ρ K (a, .inl ())); iexact HR
  iintro HO
  iapply Hk
  isplitl [HO]; · iexact HO
  iempintro

/-- The copy to device `a` gives it the block of its result, written, and leaves the credit of the own block's return. -/
theorem send_step (W : Waits sig Unit) (a : Dev nD) (l : List (Dev nD))
    (k : Prog (TpuEff nD τ sig (Elt F) Λ₀ .tc) PUnit) (Q : PUnit → sProp 𝕄) (ha : a ≠ c) :
    iprop(records m ρ K ∗ owes (c : Thread nD τ) (oweSend c (a :: l)) W
        ∗ ((dutyTok ER (recvCell a c) 0 c ∗ dutyTok ER (sendCell c a) 0 c) ∗ xPts m ρ c a ∗ ∃ f, oPts a c f))
      ⊢ iprop(((owes (c : Thread nD τ) (oweSend c l) W ∗ cred (tallyAt (sendCell c a) () N)) -∗ runs c k Q)
          -∗ runs c (.op (sendOp c a) fun _ => k) Q) := by
  iintro ⟨#HR, HO, ⟨Htr, Hts⟩, Hx, ⟨%f, Hf⟩⟩ Hk
  unfold sendOp sendAt xPts oPts
  iapply (Rounds.wp_send_pointsTo 𝒱₀ ER (sched m ρ) (c : Thread nD τ) none (κ₁ := K (c, .inr (.inl a))) (κ₂ := K (a, .inr (.inr c)))
      (r₁ := 0) (r₂ := 0) (d₁ := c) (d₂ := c) (fd := f)
      (by rw [duties_send m ρ c a ha]; exact Finset.mem_singleton_self _) (by rw [duties_recv m ρ a c ha.symm]; exact Finset.mem_singleton_self _)
      () () N rfl rfl rfl (O₀ := oweSend c (a :: l)) (oweSend c l) (oweSend_cons c a l) (W := W)
      (by rw [payload_send]; exact BI.Entails.refl _)
      (by rw [payload_recv]; exact Entails.of_eq (landed m ρ a c f))) $$ [HO Htr Hts Hx Hf]
  · isplitr; · iapply (records_inv m ρ K (c, .inr (.inl a))); iexact HR
    isplitr; · iapply (records_inv m ρ K (a, .inr (.inr c))); iexact HR
    isplitl [Hx]; · iexact Hx
    isplitl [Hf]; · iexact Hf
    isplitl [HO]; · iexact HO
    isplitl [Hts]; · iexact Hts
    isplitr; · iapply (records_reached m ρ K (c, .inr (.inl a))); iexact HR
    isplitl [Htr]; · iexact Htr
    iapply (records_reached m ρ K (a, .inr (.inr c))); iexact HR
  iintro ⟨Hc, HO⟩
  iapply Hk
  isplitl [HO] <;> iassumption

/-- A wait on device `a`'s copy takes the block it wrote and closes the cell. -/
theorem recv_step (a : Dev nD) (l : List (Dev nD)) (k : Prog (TpuEff nD τ sig (Elt F) Λ₀ .tc) PUnit) (Q : PUnit → sProp 𝕄) (ha : a ≠ c) :
    iprop(records m ρ K ∗ (∃ W, owes (c : Thread nD τ) 0 W) ∗ (cred (tallyAt (recvCell c a) () N) ∗ atPos ER (recvCell c a) 0 ∅ 0))
      ⊢ iprop((((∃ W, owes (c : Thread nD τ) 0 W) ∗ (oPts c a (outAt m ρ c) ∗ semVal (recvCell c a) 0)) -∗ runs c k Q)
          -∗ runs c (.op (recvOp a) fun _ => k) Q) := by
  iintro ⟨#HR, ⟨%W, HO⟩, Hc, Hat⟩ Hk
  unfold recvOp recvAt
  ihave #HI := (records_inv m ρ K (c, .inr (.inr a))) $$ HR
  iapply (Rounds.wp_wait_rest_token 𝒱₀ ER (sched m ρ) (c : Thread nD τ) none (κ := K (c, .inr (.inr a)))
      (wpE_waitDma2_eq 𝒱₀ (c : Thread nD τ) none Set.univ) (Set.mem_univ _) () (O := 0) (W := W) (R := 0) (m := 0) (T := ∅)
      (by rw [Nat.zero_add, expect_recv m ρ c a ha])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m ρ c a ha)) $$ Hpay
  imod (Rounds.cell_close ER (sched m ρ) (Set.mem_univ (K (c, .inr (.inr a)))) (fun h => h) (R := 0 + 1) (duties_later m ρ (recvCell c a))) $$ [Hat] with Hz
  · isplitr; · iexact HI
    iexact Hat
  iapply Hk
  isplitl [HO]; · iexists _; iexact HO
  isplitl [Hp] <;> iassumption

/-- A wait on the own copy to device `a` takes the block it read and closes the cell. -/
theorem done_step (a : Dev nD) (l : List (Dev nD)) (k : Prog (TpuEff nD τ sig (Elt F) Λ₀ .tc) PUnit) (Q : PUnit → sProp 𝕄) (ha : a ≠ c) :
    iprop(records m ρ K ∗ (∃ W, owes (c : Thread nD τ) 0 W) ∗ (cred (tallyAt (sendCell c a) () N) ∗ atPos ER (sendCell c a) 0 ∅ 0))
      ⊢ iprop((((∃ W, owes (c : Thread nD τ) 0 W) ∗ (xPts m ρ c a ∗ semVal (sendCell c a) 0)) -∗ runs c k Q)
          -∗ runs c (.op (doneOp a) fun _ => k) Q) := by
  iintro ⟨#HR, ⟨%W, HO⟩, Hc, Hat⟩ Hk
  unfold doneOp doneAt
  ihave #HI := (records_inv m ρ K (c, .inr (.inl a))) $$ HR
  iapply (Rounds.wp_wait_rest_token 𝒱₀ ER (sched m ρ) (c : Thread nD τ) none (κ := K (c, .inr (.inl a)))
      (wpE_waitDma2_eq 𝒱₀ (c : Thread nD τ) none Set.univ) (Set.mem_univ _) () (O := 0) (W := W) (R := 0) (m := 0) (T := ∅)
      (by rw [Nat.zero_add, expect_send m ρ c a ha])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m ρ c a ha)) $$ Hpay
  imod (Rounds.cell_close ER (sched m ρ) (Set.mem_univ (K (c, .inr (.inl a)))) (fun h => h) (R := 0 + 1) (duties_later m ρ (sendCell c a))) $$ [Hat] with Hz
  · isplitr; · iexact HI
    iexact Hat
  iapply Hk
  isplitl [HO]; · iexists _; iexact HO
  isplitl [Hp] <;> iassumption

/-- The wait for every other device's signal takes, from each, the block of its result that the own copy writes, and
    closes the barrier cell. -/
theorem bar_step (W : Waits sig Unit) (k : Prog (TpuEff nD τ sig (Elt F) Λ₀ .tc) PUnit) (Q : PUnit → sProp 𝕄) :
    iprop(records m ρ K ∗ levAts L lv ∗ owes (c : Thread nD τ) (oweSend c (peers c)) W ∗ cred (tallyAt (barCell c) () 31) ∗ atPos ER (barCell c) 0 ∅ 0)
      ⊢ iprop((((∃ W, owes (c : Thread nD τ) (oweSend c (peers c)) W) ∗ (bigSepL (peers c) fun d => iprop(∃ f, oPts d c f)) ∗ semVal (barCell c) 0) -∗ runs c k Q)
          -∗ runs c (.op (.semWait barS (31#32 : BitVec 32).toInt) fun _ => k) Q) := by
  iintro ⟨#HR, #Hlev, HO, Hc, Hat⟩ Hk
  ihave #HI := (records_inv m ρ K (c, .inl ())) $$ HR
  iapply (Rounds.wp_wait_rest_token 𝒱₀ ER (sched m ρ) (c : Thread nD τ) none (κ := K (c, .inl ()))
      (wpE_semWait_eq 𝒱₀ (c : Thread nD τ) none Set.univ) (Set.mem_univ _) () (O := oweSend c (peers c)) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c (peers c)); iexact Hlev
    iexact Hat
  iintro ⟨HO, Hat, -, Hpay⟩
  ihave Hp := (Entails.of_eq (rest_bar m ρ c)) $$ Hpay
  imod (Rounds.cell_close ER (sched m ρ) (Set.mem_univ (K (c, .inl ()))) (fun h => h) (R := 0 + 1) (duties_later m ρ (barCell c))) $$ [Hat] with Hz
  · isplitr; · iexact HI
    iexact Hat
  iapply Hk
  isplitl [HO]; · iexists _; iexact HO
  isplitl [Hp]; · unfold barPay; iexact Hp
  iexact Hz

/-- The own block, loaded and stored: block `c` of the result then holds the result. -/
theorem own_step (f : Buf (Elt F) ((oBlk c).view.loc (c : Thread nD τ))) (k : Prog (TpuEff nD τ sig (Elt F) Λ₀ .tc) PUnit) (Q : PUnit → sProp 𝕄) :
    iprop(xPts m ρ c c ∗ oPts c c f)
      ⊢ iprop(((xPts m ρ c c ∗ oPts c c (outAt m ρ c)) -∗ runs c k Q)
          -∗ runs c (ownAt ![0, 256 * c.val] (inb_x c) ![256 * c.val, 0] (inb_o c) k) Q) := by
  iintro ⟨Hx, Ho⟩ Hk
  unfold ownAt
  iapply (wp_load_rect 𝒱₀ (c : Thread nD τ) none Set.univ (m := xM) (r := Rect.unit (s := S256x8192) ![0, 256 * c.val] S256x256.size (inb_x c))
    (S := (xBlk c).view.set) (f := xstg m ρ c) (Finset.Subset.refl _)) $$ [Hx]
  · unfold xPts; iexact Hx
  iintro Hx
  iapply (wp_load_rect 𝒱₀ (c : Thread nD τ) none Set.univ (m := oM) (r := Rect.unit (s := S8192x256) ![256 * c.val, 0] S256x256.size (inb_o c))
    (S := (oBlk c).view.set) (f := f) (Finset.Subset.refl _)) $$ [Ho]
  · unfold oPts; iexact Ho
  iintro Ho
  iapply (wp_store 𝒱₀ (c : Thread nD τ) none Set.univ (m := oM) (r := Rect.unit (s := S8192x256) ![256 * c.val, 0] S256x256.size (inb_o c))
    (S := (oBlk c).view.set) (f := f) (Mk := Finset.univ) (Finset.Subset.refl _)) $$ [Ho]
  · iexact Ho
  iintro Ho
  iapply Hk
  isplitl [Hx]; · unfold xPts; iexact Hx
  iapply (Entails.of_eq (landed m ρ c c f))
  unfold k0_pay1
  rw [shapeCast_self]
  iexact Ho

end Steps

/-! ## The body -/

section Body

omit [FloatOps F] in
/-- The own cells, peer by peer. -/
theorem cells_eq (c : Dev nD) (Φ : GSem nD τ sig → sProp 𝕄) : (bigSep Finset.univ fun k : Cix => Φ (kcell (c, k)))
    = iprop(Φ (barCell c) ∗ (Φ (sendCell c c) ∗ bigSepL (peers c) fun j => Φ (sendCell c j)) ∗ Φ (recvCell c c) ∗ bigSepL (froms c) fun k => Φ (recvCell c k)) := by
  rw [bigSep_univ_sum, bigSep_univ_sum, Finset.univ_unique, bigSep_singleton, at_peers c fun j => Φ (kcell (c, .inr (.inl j))), at_froms c fun k => Φ (kcell (c, .inr (.inr k)))]
  rfl

omit [FloatOps F] in
/-- The tokens a device pays with, peer by peer, by what they pay. -/
theorem toks_elim (c : Dev nD) : (bigSep Finset.univ fun d : Dev nD => (payTok c d : sProp 𝕄))
    ⊢ iprop((bigSepL (peers c) fun d => dutyTok ER (barCell d) 0 c) ∗ bigSepL (peers c) fun d => iprop(dutyTok ER (recvCell d c) 0 c ∗ dutyTok ER (sendCell c d) 0 c)) := by
  rw [at_peers c]
  unfold payTok
  rw [bigSepL_sep]
  iintro ⟨-, H⟩; iexact H

def bodyPre (K : Dev nD × Cix → ℕ) (c : Dev nD) : sProp 𝕄 :=
  iprop((records m ρ K ∗ linear c ∗ cred (tallyAt (barCell c) () 31) ∗ (bigSep (Finset.univ.erase c) fun k => cred (tallyAt (recvCell c k) () N)) ∗ levAts L lv)
    ∗ (∃ W, owes (c : Thread nD τ) (O₀ c) W)
    ∗ (((c : Thread nD τ).loc cc0_stg0_0) ↦{fullShare} xstg m ρ c)
    ∗ ∃ f, (((c : Thread nD τ).loc cc0_stg1_0) ↦{fullShare} f))

def bodyPost (c : Dev nD) : sProp 𝕄 :=
  iprop(finish c ∗ (∃ W, owes (c : Thread nD τ) 0 W)
    ∗ (((c : Thread nD τ).loc cc0_stg0_0) ↦{fullShare} xstg m ρ c)
    ∗ (((c : Thread nD τ).loc cc0_stg1_0) ↦{fullShare} outAt m ρ c))

/-- The body in closed form, from every cell at round 0 and the argument staged, ends with every own cell closed, the argument
    still staged and the result in the result's staging buffer. -/
theorem sound_body (K : Dev nD × Cix → ℕ) (c : Dev nD) (Q : PUnit → sProp 𝕄) :
    iprop(bodyPre m ρ K c ∗ (bodyPost m ρ c -∗ Q ⟨⟩)) ⊢ runs c (body c) Q := by
  unfold bodyPre linear body O₀
  rw [cells_eq c fun g => atPos ER g 0 ∅ 0, bigSep_eq_bigSepL_of_eq (froms c) (froms_univ c) (froms_nodup c), x_split, at_peers c fun j => xPts m ρ c j]
  iintro ⟨⟨⟨#HR, ⟨⟨HatB, ⟨HatS0, HatS⟩, HatR0, HatR⟩, Htok⟩, HcB, HcR, #Hlev⟩, ⟨%W, HO⟩, ⟨Hx0, Hx⟩, ⟨%f, Ho⟩⟩, Hk⟩
  ihave Ht := (toks_elim c) $$ Htok
  icases Ht with ⟨HtB, HtX⟩
  ihave Ho' := (Entails.of_eq ((o_split c f).trans (at_peers c fun k => oPts c k f))) $$ Ho
  icases Ho' with ⟨Ho0, Ho⟩
  ihave Ho := (show (bigSepL (peers c) fun k => oPts c k f) ⊢ (bigSepL (peers c) fun k => iprop(∃ f, oPts c k f) : sProp 𝕄) from
    bigSepL_mono fun k _ => by iintro H; iexists f; iexact H) $$ Ho
  -- the signals
  iapply (wp_runAll c sigAt (records m ρ K) (fun l => owes (c : Thread nD τ) (oweSend c (peers c) + oweBar l) W)
    (fun a => iprop(dutyTok ER (barCell a) 0 c ∗ ∃ f, oPts c a f)) (fun _ => iprop(emp)) (fun a => a ≠ c)
    (sig_step m ρ K c (oweSend c (peers c)) W) _ Q (peers c) (peers_ne c)) $$ [HO HtB Ho]
  · isplitr; · iexact HR
    isplitl [HO]; · iexact HO
    rw [bigSepL_sep]; isplitl [HtB] <;> iassumption
  rw [show oweSend c (peers c) + oweBar [] = oweSend c (peers c) from add_zero _]
  iintro ⟨HO, -⟩
  -- the wait for the others' signals
  iapply (bar_step m ρ K c W) $$ [HO HcB HatB]
  · isplitr; · iexact HR
    isplitr; · iexact Hlev
    isplitl [HO]; · iexact HO
    isplitl [HcB] <;> iassumption
  iintro ⟨⟨%W', HO⟩, Hland, HzB⟩
  -- the copies
  iapply (wp_runAll c (sendOp c) (records m ρ K) (fun l => owes (c : Thread nD τ) (oweSend c l) W')
    (fun a => iprop((dutyTok ER (recvCell a c) 0 c ∗ dutyTok ER (sendCell c a) 0 c) ∗ xPts m ρ c a ∗ ∃ f, oPts a c f))
    (fun a => cred (tallyAt (sendCell c a) () N)) (fun a => a ≠ c)
    (send_step m ρ K c W') _ Q (peers c) (peers_ne c)) $$ [HO HtX Hx Hland]
  · isplitr; · iexact HR
    isplitl [HO]; · iexact HO
    rw [bigSepL_sep (peers c) (fun a => iprop(dutyTok ER (recvCell a c) 0 c ∗ dutyTok ER (sendCell c a) 0 c)),
      bigSepL_sep (peers c) (xPts m ρ c)]
    isplitl [HtX]; · iexact HtX
    isplitl [Hx] <;> iassumption
  rw [show oweSend c [] = 0 from rfl]
  iintro ⟨HO, HcS⟩
  -- the own block
  iapply (own_step m ρ c f) $$ [Hx0 Ho0]
  · isplitl [Hx0] <;> iassumption
  iintro ⟨Hx0, Ho0⟩
  -- the waits for the others' copies
  iapply (wp_runAll c recvOp (records m ρ K) (fun _ => iprop(∃ W, owes (c : Thread nD τ) 0 W))
    (fun a => iprop(cred (tallyAt (recvCell c a) () N) ∗ atPos ER (recvCell c a) 0 ∅ 0))
    (fun a => iprop(oPts c a (outAt m ρ c) ∗ semVal (recvCell c a) 0)) (fun a => a ≠ c)
    (recv_step m ρ K c) _ Q (froms c) (froms_ne c)) $$ [HO HcR HatR]
  · isplitr; · iexact HR
    isplitl [HO]; · iexists W'; iexact HO
    rw [bigSepL_sep]; isplitl [HcR] <;> iassumption
  rw [bigSepL_sep]
  iintro ⟨HO, Ho, HzR⟩
  -- the waits for the own copies
  iapply (wp_runAll c doneOp (records m ρ K) (fun _ => iprop(∃ W, owes (c : Thread nD τ) 0 W))
    (fun a => iprop(cred (tallyAt (sendCell c a) () N) ∗ atPos ER (sendCell c a) 0 ∅ 0))
    (fun a => iprop(xPts m ρ c a ∗ semVal (sendCell c a) 0)) (fun a => a ≠ c)
    (done_step m ρ K c) _ Q (peers c) (peers_ne c)) $$ [HO HcS HatS]
  · isplitr; · iexact HR
    isplitl [HO]; · iexact HO
    rw [bigSepL_sep]; isplitl [HcS] <;> iassumption
  rw [bigSepL_sep]
  iintro ⟨HO, Hx, HzS⟩
  -- the two cells for the own device, which no copy uses
  imod (Rounds.cell_close ER (sched m ρ) (Set.mem_univ (K (c, .inr (.inl c)))) (fun h => h) (R := 0) (fun r _ => duties_own_send m ρ c r)) $$ [HatS0] with HzS0
  · isplitr; · iapply (records_inv m ρ K (c, .inr (.inl c))); iexact HR
    iexact HatS0
  imod (Rounds.cell_close ER (sched m ρ) (Set.mem_univ (K (c, .inr (.inr c)))) (fun h => h) (R := 0) (fun r _ => duties_own_recv m ρ c r)) $$ [HatR0] with HzR0
  · isplitr; · iapply (records_inv m ρ K (c, .inr (.inr c))); iexact HR
    iexact HatR0
  rw [wp_ret]; imodintro
  iapply Hk
  unfold bodyPost finish
  rw [cells_eq c fun g => semVal g 0, x_split, at_peers c fun j => xPts m ρ c j, o_split, at_froms c fun k => oPts c k (outAt m ρ c)]
  isplitl [HzB HzS HzS0 HzR HzR0]
  · isplitl [HzB]; · iexact HzB
    isplitl [HzS HzS0]
    · isplitl [HzS0] <;> iassumption
    isplitl [HzR0] <;> iassumption
  isplitl [HO]; · iexact HO
  isplitl [Hx Hx0]
  · isplitl [Hx0] <;> iassumption
  isplitl [Ho0] <;> iassumption

end Body

/-! ## The pipeline's obligation -/

/-- The one grid point. -/
abbrev t₀ : Fin cfg0.N := t0_0

def obligPre (c : Dev nD) : sProp 𝕄 :=
  iprop(start m ρ c ∗ (dats m ρ 0 c).owesAt () t₀.castSucc
    ∗ (∃ d, ((c : Thread nD τ).loc cc0_stg0_0) ↦{fullShare} (dats m ρ 0 c).before (0 : Fin 2) t₀ d)
    ∗ (∃ d, ((c : Thread nD τ).loc cc0_stg1_0) ↦{fullShare} (dats m ρ 0 c).before (1 : Fin 2) t₀ d))
def obligPost (c : Dev nD) : sProp 𝕄 :=
  iprop(finish c ∗ (dats m ρ 0 c).owesAt () t₀.succ
    ∗ (((c : Thread nD τ).loc cc0_stg0_0) ↦{fullShare} xstg m ρ c) ∗ (((c : Thread nD τ).loc cc0_stg1_0) ↦{fullShare} outAt m ρ c))

set_option maxRecDepth 8000 in
/-- The body meets what the pipeline asks of it at its one grid point. -/
theorem body_obligation (c : Dev nD) : BodyObligation (dats (F := F) m ρ 0 c) (defs₀ (F := F)) 𝒱₀ () Set.univ := fun t => by
  rw [show t = t₀ from fin_N0 t, bigSep_W0, bigSep_W0]
  simp only [owns_whole]
  show obligPre m ρ c ⊢ wp frame (wpE (defs₀ (F := F)) 𝒱₀ (c : Thread nD τ) none) Set.univ
    (cc0_body xM (Memref.isWhole_whole _) oM (Memref.isWhole_whole _) cc0_scratch0 cc0_scratch1) (fun _ => obligPost m ρ c)
  rw [cc0_body_eq]
  simp only [wp_deviceId]
  unfold obligPre start
  iintro ⟨⟨⟨%K, Hrec, Hlin⟩, HcB, HcR, Hlev⟩, Ho, ⟨%d0, Hx⟩, ⟨%d1, Hout⟩⟩
  rw [show (dats m ρ 0 c).before (0 : Fin 2) t₀ d0 = xstg m ρ c from by unfold Dat.before; rw [if_pos (fetch0_0 t₀)]; rfl]
  iapply (sound_body m ρ K c fun _ => obligPost m ρ c)
  unfold bodyPre Dat.owesAt Pipeline.owesWithin
  icases Ho with ⟨%W, %hW, HO⟩
  rw [show (dats m ρ 0 c).owed t₀.castSucc = O₀ c from rfl]
  isplitr []
  · isplitl [Hrec Hlin HcB HcR Hlev]
    · isplitl [Hrec]; · iexact Hrec
      isplitl [Hlin]; · iexact Hlin
      isplitl [HcB]; · iexact HcB
      isplitl [HcR] <;> iassumption
    isplitl [HO]; · iexists W; iexact HO
    isplitl [Hx]; · iexact Hx
    iexists _; iexact Hout
  · unfold bodyPost obligPost Dat.owesAt Pipeline.owesWithin
    rw [show (dats m ρ 0 c).owed t₀.succ = 0 from rfl]
    iintro ⟨Hf, ⟨%W', HO⟩, Hx, Hout⟩
    isplitl [Hf]; · iexact Hf
    isplitl [HO]
    · iexists W'
      isplitr; · ipureintro; exact fun _ _ => Or.inl trivial
      iexact HO
    isplitl [Hx] <;> iassumption

end Cert.Exchange.KernelIdeal

end
-- ==== Proof.KernelIdeal.Launch.lean ====
/-
The launch of `KernelIdeal`: from any memory with every counter at zero, what every device starts from, and the run.

Every cell is set up at round 0. The duty tokens are minted by the device that pays, all three of each ordered pair of devices.
The credit a device starts with is what the others owe it: one unit of each other device at its barrier cell, and one block of
each other device at that device's receive cell.
-/
module

public import proofs.«01_k».proof.Proof.KernelIdeal.Body
public import Idealize.ShloMosaic.Lib.Pipeline.CollectiveSegs

@[expose] public section

noncomputable section

namespace Cert.Exchange.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The kernel's own semaphores: one to send and one to receive for each device. -/
abbrev osem (x : Dev nD ⊕ Dev nD) : SemLoc sig := csem (.inr x)

theorem ownSemFacts : Pipeline.OwnSemFacts cfg0.spec osem where
  isScoped := by decide +kernel
  inj x y h := Sum.inr.inj (csem_injective h)
  disj := by decide +kernel

omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
/-- Every cell of a device at zero is its barrier cell at zero, which no launch scopes, and the kernel's own at zero. -/
theorem finish_eq (c : Dev nD) : (finish c : sProp 𝕄)
    = iprop(unscopedSems0 c ∗ Pipeline.ownSems0 (Ix := Unit) (Name := ℕ) (U := UU) (Lvl := ℕ) (Val := Elt F) (τ := τ) osem c) := by
  unfold finish
  rw [bigSep_univ_sum, Finset.univ_unique, bigSep_singleton, unscopedSems0_eq]; rfl

/-! ## What is minted -/

def allCells : Finset (GSem nD τ sig) := Finset.univ.map ⟨kcell, kcell_injective⟩

/-- The cell of the duty of a kind that device `p.1` pays to device `p.2`. -/
abbrev dutyCell (p : Dev nD × Dev nD) : Fin 3 → Dev nD × Cix
  | 0 => (p.2, .inl ())
  | 1 => (p.2, .inr (.inr p.1))
  | 2 => (p.1, .inr (.inl p.2))
abbrev tokOf (x : (Dev nD × Dev nD) × Fin 3) : GSem nD τ sig × ℕ × Dev nD := (kcell (dutyCell x.1 x.2), 0, x.1.1)

theorem tokOf_injective : Function.Injective tokOf := by
  rintro ⟨⟨c, d⟩, k⟩ ⟨⟨c', d'⟩, k'⟩ h
  have h1 : c = c' := congrArg (fun x : GSem nD τ sig × ℕ × Dev nD => x.2.2) h
  subst h1
  have h2 : dutyCell (c, d) k = dutyCell (c, d') k' := kcell_injective (congrArg Prod.fst h)
  have h3 : d = d' ∧ k = k' := by
    match k, k', h2 with
    | 0, 0, h2 => exact ⟨congrArg Prod.fst h2, rfl⟩
    | 1, 1, h2 => exact ⟨congrArg Prod.fst h2, rfl⟩
    | 2, 2, h2 => exact ⟨Sum.inl.inj (Sum.inr.inj (congrArg Prod.snd h2)), rfl⟩
    | 0, 1, h2 | 0, 2, h2 | 1, 0, h2 | 1, 2, h2 | 2, 0, h2 | 2, 1, h2 => cases congrArg Prod.snd h2
  rw [h3.1, h3.2]

def allToks : Finset (GSem nD τ sig × ℕ × Dev nD) := Finset.univ.map ⟨tokOf, tokOf_injective⟩

def u₀ : UU :=
  (initOf (Pipeline.cells cfgs cellOf_inj) (Pipeline.launchToks cfgs cellOf_inj), initOf allCells allToks)

omit [FloatOps F] in
/-- A family over all cells, device by device. -/
theorem allCells_eq (Φ : GSem nD τ sig → sProp 𝕄) : bigSep allCells Φ = bigSep Finset.univ fun c => bigSep Finset.univ fun k => Φ (kcell (c, k)) := by
  unfold allCells; rw [bigSep_map, bigSep_univ_prod]; rfl

omit [FloatOps F] in
/-- The minted tokens are what each device pays with. -/
theorem allToks_eq : bigSep allToks (fun x => (dutyTok ER x.1 x.2.1 x.2.2 : sProp 𝕄)) = bigSep Finset.univ fun c => bigSep Finset.univ fun d => payTok c d := by
  unfold allToks
  rw [bigSep_map, bigSep_univ_prod, bigSep_univ_prod]
  refine bigSep_congr fun c _ => bigSep_congr fun d _ => ?_
  unfold payTok
  exact bigSep_univ_eq_bigSepL [(0 : Fin 3), 1, 2] (by decide) (by decide) _

/-- What a device is dealt: its cells' states, that each has reached round 0, its places and its tokens. -/
def G (c : Dev nD) : sProp 𝕄 :=
  iprop((bigSep Finset.univ fun k : Cix => roundState ER (sched m ρ) (kcell (c, k)) 0)
    ∗ (bigSep Finset.univ fun k : Cix => reached ER (kcell (c, k)) 0) ∗ linear c)

/-- What is made of it: the cells' invariants, known to all, and the device's places and tokens. -/
def G' (c : Dev nD) : sProp 𝕄 := iprop(∃ K, records m ρ K ∗ linear c)

omit [FloatOps F] in
theorem fund_all : BI.own (ER (initOf allCells allToks)) ⊢ (|==> bigSep Finset.univ (G m ρ) : sProp 𝕄) := by
  iintro HX
  imod (Rounds.fund ER (sched m ρ) allCells allToks) $$ HX with ⟨Hst, Hr, Hat, Htok⟩
  imodintro
  ihave Hst := (Entails.of_eq (allCells_eq fun g => roundState ER (sched m ρ) g 0)) $$ Hst
  ihave Hat := (Entails.of_eq (allCells_eq fun g => atPos ER g 0 ∅ 0)) $$ Hat
  ihave Hr := (Entails.of_eq (allCells_eq fun g => reached ER g 0)) $$ Hr
  ihave Htok := (Entails.of_eq (allToks_eq (F := F))) $$ Htok
  unfold G linear; simp only [bigSep_sep']
  isplitl [Hst]; · iexact Hst
  isplitl [Hr]; · iexact Hr
  isplitl [Hat] <;> iassumption

omit [FloatOps F] in
/-- A device's cells at zero and their states, made invariants. -/
theorem alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cix => iprop(∃ κ : ℕ, cellInv ER (sched m ρ) κ (kcell (c, k))))
          ∗ (bigSep Finset.univ fun k : Cix => reached ER (kcell (c, k)) 0) ∗ linear c) := by
  have hinv : iprop(finish c ∗ bigSep Finset.univ fun k : Cix => roundState ER (sched m ρ) (kcell (c, k)) 0)
      ⊢ (|={Set.univ}=> bigSep Finset.univ fun k : Cix => iprop(∃ κ : ℕ, cellInv ER (sched m ρ) κ (kcell (c, k))) : sProp 𝕄) := by
    unfold finish
    rw [← bigSep_sep']
    exact (bigSep_mono fun k _ => (Rounds.body_intro ER (sched m ρ) (kcell (c, k))).trans inv_alloc).trans (bigSep_fupd _ _)
  unfold G
  iintro ⟨Hos, Hus, Hst, Hrest⟩
  imod hinv $$ [Hos Hus Hst] with Hinv
  · rw [finish_eq]
    isplitr [Hst]
    · isplitl [Hus] <;> iassumption
    iexact Hst
  imodintro
  isplitl [Hinv] <;> iassumption

omit [FloatOps F] in
theorem G'_intro (K : Dev nD × Cix → ℕ) (c : Dev nD) : iprop(records m ρ K ∗ linear c) ⊢ G' m ρ c := by
  unfold G'
  iintro H
  iexists K; iexact H

omit [FloatOps F] in
/-- The invariants' names chosen, and all of them told to every device. -/
theorem regroup :
    (bigSep Finset.univ fun c : Dev nD => iprop((bigSep Finset.univ fun k : Cix => iprop(∃ κ : ℕ, cellInv ER (sched m ρ) κ (kcell (c, k))))
          ∗ (bigSep Finset.univ fun k : Cix => reached ER (kcell (c, k)) 0) ∗ linear c) : sProp 𝕄)
      ⊢ bigSep Finset.univ (G' m ρ) := by
  rw [bigSep_sep', bigSep_sep', ← bigSep_univ_prod (fun x : Dev nD × Cix => iprop(∃ κ : ℕ, cellInv ER (sched m ρ) κ (kcell x))),
    ← bigSep_univ_prod (fun x : Dev nD × Cix => (reached ER (kcell x) 0 : sProp 𝕄))]
  iintro ⟨HI, #HR, Hlin⟩
  ihave HK := (BI.bigSep_exists_pi Finset.univ (fun (x : Dev nD × Cix) (κ : ℕ) => (cellInv ER (sched m ρ) κ (kcell x) : sProp 𝕄))) $$ HI
  icases HK with ⟨%K, #HI⟩
  have hall : iprop(records m ρ K ∗ bigSep Finset.univ fun c : Dev nD => linear c) ⊢ (bigSep Finset.univ (G' m ρ) : sProp 𝕄) := by
    refine (sep_mono_left (BI.bigSep_of_persistent (Finset.univ : Finset (Dev nD)) (records m ρ K))).trans ?_
    rw [← bigSep_sep']
    exact bigSep_mono fun c _ => G'_intro m ρ K c
  iapply hall
  isplitr
  · unfold records
    isplitl <;> iassumption
  iexact Hlin

omit [FloatOps F] in
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => alloc m ρ c).trans (bigSep_fupd _ _)).trans (BI.fupd_mono (regroup m ρ))

/-! ## The launch credit -/

/-- A sum of tallies read at one cell. -/
theorem sum_at {f : Dev nD → GSem nD τ sig} {n : ℕ} {l : List (Dev nD)} (hl : l.Nodup) (g : GSem nD τ sig) :
    (l.map fun d => (tallyAt (f d) () n : CellTallies nD τ sig Unit)).sum g () = ∑ d ∈ l.toFinset, if f d = g then n else 0 := by
  rw [List.sum_toFinset _ hl]
  clear hl
  induction l with
  | nil => rfl
  | cons a l ih =>
    rw [List.map_cons, List.sum_cons, List.map_cons, List.sum_cons, Pi.add_apply, Finsupp.add_apply, ih, tallyAt_apply]
    congr 1
    by_cases h : f a = g
    · rw [if_pos h, if_pos ⟨h.symm, rfl⟩]
    · rw [if_neg h, if_neg fun h' => h h'.1.symm]

theorem owe_at (d : Dev nD) (g : GSem nD τ sig) :
    O₀ d g () = (∑ e ∈ Finset.univ.erase d, if recvCell e d = g then N else 0) + ∑ e ∈ Finset.univ.erase d, if barCell e = g then 1 else 0 := by
  unfold O₀
  rw [Pi.add_apply, Finsupp.add_apply]
  unfold oweSend oweBar
  rw [sum_at (peers_nodup d), sum_at (peers_nodup d), ← peers_univ]

theorem bar_iff {a b : Dev nD} : barCell a = barCell b ↔ a = b :=
  ⟨fun h => congrArg (fun g : GSem nD τ sig => g.1.1) h, fun h => h ▸ rfl⟩
theorem recv_iff {a b k l : Dev nD} : recvCell a k = recvCell b l ↔ a = b ∧ k = l :=
  ⟨fun h => ⟨congrArg (fun g : GSem nD τ sig => g.1.1) h,
    Sum.inr.inj (Sum.inr.inj (csem_injective (a₁ := .inr (.inr k)) (a₂ := .inr (.inr l)) (congrArg Prod.snd h)))⟩, fun h => by rw [h.1, h.2]⟩
theorem recv_ne_bar {a b k : Dev nD} : recvCell a k ≠ barCell b := fun h => by cases congrArg Prod.snd h

/-- Every other device owes a device's barrier cell a unit; -/
theorem owed_bar (d c : Dev nD) : O₀ d (barCell c) () = if c ≠ d then 1 else 0 := by
  rw [owe_at, Finset.sum_eq_zero fun e _ => if_neg recv_ne_bar, Nat.zero_add]
  simp only [bar_iff, Finset.sum_ite_eq', Finset.mem_erase, Finset.mem_univ, and_true]
/-- and device `k` owes the receive cell for it, and no other device does. -/
theorem owed_recv (d c k : Dev nD) (h : k ≠ c) : O₀ d (recvCell c k) () = if d = k then N else 0 := by
  rw [owe_at, Finset.sum_eq_zero (s := Finset.univ.erase d) (f := fun e => if barCell e = recvCell c k then 1 else 0) fun e _ => if_neg recv_ne_bar.symm, Nat.add_zero]
  by_cases hd : d = k
  · subst hd
    simp only [recv_iff, and_true, Finset.sum_ite_eq', Finset.mem_erase, Finset.mem_univ, if_true]
    rw [if_pos h.symm]
  · rw [if_neg hd]
    exact Finset.sum_eq_zero fun e _ => if_neg fun h' => hd (recv_iff.mp h').2

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel

theorem launch_recv (c k : Dev nD) (h : k ≠ c) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k h, Finset.sum_ite_eq' Finset.univ k fun _ => N,
    if_pos (Finset.mem_univ _)]

omit [FloatOps F] in
/-- What a device is owed at launch covers what its body waits for. -/
theorem creds (c : Dev nD) :
    (Pipeline.launchCred O₀ c : sProp 𝕄) ⊢ iprop(cred (tallyAt (barCell c) () 31) ∗ bigSep (Finset.univ.erase c) fun k => cred (tallyAt (recvCell c k) () N)) := by
  unfold Pipeline.launchCred
  refine (bigSep_subset (Finset.subset_univ (Finset.univ.map ⟨csem, csem_injective⟩))).trans ?_
  rw [bigSep_map, bigSep_univ_sum, bigSep_univ_sum, Finset.univ_unique, bigSep_singleton]
  have hr : (bigSep Finset.univ fun k : Dev nD => cred (tallyOn (recvCell c k) (launchCredit (Pipeline.owing O₀) 0 (recvCell c k))) : sProp 𝕄)
      ⊢ bigSep (Finset.univ.erase c) fun k => cred (tallyAt (recvCell c k) () N) :=
    (bigSep_subset (Finset.erase_subset c Finset.univ)).trans
      (Entails.of_eq (bigSep_congr fun k hk => by rw [launch_recv c k (Finset.ne_of_mem_erase hk)]))
  have hc (B S R : sProp 𝕄) (hB : B = cred (tallyAt (barCell c) () 31)) (hR : R ⊢ bigSep (Finset.univ.erase c) fun k => cred (tallyAt (recvCell c k) () N)) :
      iprop(B ∗ S ∗ R) ⊢ iprop(cred (tallyAt (barCell c) () 31) ∗ bigSep (Finset.univ.erase c) fun k => cred (tallyAt (recvCell c k) () N)) := by
    rw [hB]
    iintro ⟨HB, -, HR⟩
    isplitl [HB]; · iexact HB
    iapply hR; iexact HR
  exact hc _ _ _ (congrArg cred (launch_bar c)) hr

/-! ## The run -/

theorem share_eq (c : Dev nD) (w : Fin cfg0.W) : (dats m ρ 0 c).share w = fullShare := by unfold Dat.share; split <;> rfl

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨HB, HR⟩
  imodintro
  unfold start G'
  isplitl
  · isplitl [HG]; · iexact HG
    isplitl [HB]; · iexact HB
    isplitl [HR] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩
  iexact Hs

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = finish c from rfl, scopedRest0_eq, finish_eq]
  iintro ⟨HB, HO⟩
  isplitl [HB]; · iexact HB
  isplitl [HO]; · iexact HO
  iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What device `c`'s array of window `w` ends holding. -/
def finalA (c : Dev nD) (w : Fin cfg0.W) : Buf (Elt F) ((cfg0.win w).arr.view.loc (c : Thread nD τ)) := (dats m ρ 0 c).arrAt w cfg0.N

def Done : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On 32 devices, at any float values, from any memory with every counter at zero: every weakly fair execution terminates,
    with the windows' arrays at the stated contents and every counter at zero. -/
theorem run_main : θ_run defs (onTc (τ := τ) (main (F := F))) (s₀ m ρ) (fun r => Done m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange.KernelIdeal

end
-- ==== Proof.KernelIdeal.Values.lean ====
/-
What the run of `KernelIdeal` leaves in each device's arrays: the argument as it was, and in the result, at row `r` and column `l`
of device `c`, the element at row `r % 256` and column `256 c + l` of the argument of device `r / 256`. So where the arguments
are the row blocks of one whole array the results are its column blocks.
-/
module

public import proofs.«01_k».proof.Proof.KernelIdeal.Launch
public import Idealize.ShloMosaic.Lib.Layout

@[expose] public section

noncomputable section

namespace Cert.Exchange.KernelIdeal

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The window of the argument is the whole array, and so is the window of the result. -/
theorem emb_x (i : S256x8192.Idx) : (win0_0.blk (0 : Fin 1)).view.emb i = i := by
  funext a; refine Fin.ext ?_
  match a with
  | ⟨0, _⟩ => show 0 * 256 + 1 * (i 0).val = (i 0).val; omega
  | ⟨1, _⟩ => show 0 * 8192 + 1 * (i 1).val = (i 1).val; omega
theorem emb_o (i : S8192x256.Idx) : (win0_1.blk (0 : Fin 1)).view.emb i = i := by
  funext a; refine Fin.ext ?_
  match a with
  | ⟨0, _⟩ => show 0 * 8192 + 1 * (i 0).val = (i 0).val; omega
  | ⟨1, _⟩ => show 0 * 256 + 1 * (i 1).val = (i 1).val; omega

/-- The argument as staged is the argument. -/
theorem xstg_eq (c : Dev nD) : xstg m ρ c = m ((c : Thread nD τ).loc main_arg0) := by
  funext i
  show m ((c : Thread nD τ).loc main_arg0) ((win0_0.blk (0 : Fin 1)).view.emb i) = _
  rw [emb_x]

/-- Where in the argument of the device that sent it an element of the result comes from. -/
def src (c : Dev nD) (i : S8192x256.Idx) : S256x8192.Idx := (xBlk c).view.emb (inBlk i)

theorem outAt_apply (c : Dev nD) (i : S8192x256.Idx) : outAt m ρ c i = m ((rowDev i : Thread nD τ).loc main_arg0) (src c i) := by
  rw [← xstg_eq m ρ]; rfl

theorem src_row (c : Dev nD) (i : S8192x256.Idx) : (src c i 0).val = (i 0).val % 256 := by
  show 0 + 1 * ((i 0).val % 256) = _; omega
theorem src_col (c : Dev nD) (i : S8192x256.Idx) : (src c i 1).val = 256 * c.val + (i 1).val := by
  show 256 * c.val + 1 * (i 1).val = _; omega

/-- The argument array ends as it was. -/
theorem finalA_x (c : Dev nD) : finalA m ρ c (0 : Fin 2) = m ((c : Thread nD τ).loc main_arg0) :=
  (dats (F := F) m ρ 0 c).arrAt_in (0 : Fin 2) rfl _

/-- The result array ends as the body left its staging buffer. -/
theorem finalA_o (c : Dev nD) : finalA m ρ c (1 : Fin 2) = outAt m ρ c :=
  (dats (F := F) m ρ 0 c).arrAt_eq_of_cover (1 : Fin 2) (outAt m ρ c)
    (fun t _ => by
      rw [show t = t₀ from fin_N0 t]; funext i
      show outAt m ρ c i = outAt m ρ c ((win0_1.blk (0 : Fin 1)).view.emb i)
      rw [emb_o])
    (fun i => ⟨t₀, flush0_1 t₀, by
      show i ∈ (win0_1.blk (0 : Fin 1)).view.set
      rw [← emb_o i]
      exact Finset.mem_map_of_mem _ (Finset.mem_univ i)⟩)

/-- Row blocks of one array in, its column blocks out. -/
theorem outAt_block (X : (⟨2, ![8192, 8192]⟩ : Shape).Idx → Elt F .f32)
    (hX : ∀ c : Dev nD, m ((c : Thread nD τ).loc main_arg0) = Layout.block ⟨2, ![256, 8192]⟩ ⟨2, ![8192, 8192]⟩ 0 32 c X) (c : Dev nD) :
    outAt m ρ c = Layout.block ⟨2, ![8192, 256]⟩ ⟨2, ![8192, 8192]⟩ 1 32 c X := by
  funext i
  rw [outAt_apply, hX]
  refine congrArg X (funext fun a => Fin.ext ?_)
  have hr := src_row c i
  have hc := src_col c i
  match a with
  | ⟨0, _⟩ =>
    show (i 0).val / 256 * 256 + (src c i 0).val = (i 0).val
    omega
  | ⟨1, _⟩ =>
    show (src c i 1).val = c.val * 256 + (i 1).val
    omega

/-- The run, read at the program's two arrays. -/
theorem run_values : θ_run defs (onTc (τ := τ) (main (F := F))) (s₀ m ρ) (fun r =>
    (∀ c : Dev nD, r.2.mem ((c : Thread nD τ).loc main_v1) = outAt m ρ c
      ∧ r.2.mem ((c : Thread nD τ).loc main_arg0) = m ((c : Thread nD τ).loc main_arg0)) ∧ r.2.sem = fun _ => 0) :=
  (θ_run defs _ _).mono (fun _ h => ⟨fun c => ⟨(h.1 c (1 : Fin 2)).trans (finalA_o m ρ c), (h.1 c (0 : Fin 2)).trans (finalA_x m ρ c)⟩, h.2⟩)
    (run_main m ρ)

end Cert.Exchange.KernelIdeal

end
-- ==== Proof.KernelRun.lean ====
/-
The run of `Kernel`, got from that of `KernelIdeal`.

The two programs are one text printed twice and the exchange is proved of that text at any float values. So `Kernel`'s kernel
function and @main are `KernelIdeal`'s, and its run is `KernelIdeal`'s run at the same values.
-/
module

public import proofs.«01_k».proof.Proof.KernelIdeal.Values
public import proofs.«01_k».proof.Proof.Gen.Kernel

@[expose] public section

noncomputable section

namespace Cert.Exchange

open Idealize.ShloMosaic Idealize.ShloMosaic.TcCoe Idealize.SL.Sem

variable {F : FTy → Type} [FloatOps F]

set_option maxRecDepth 20000 in
/-- The two programs' kernel functions are the same, -/
theorem kernels_eq : Cert.Kernel.defs₀ (F := F) = Cert.KernelIdeal.defs₀ (F := F) :=
  congrArg Defs.onTc (funext fun l => funext fun x => match l, x with
    | 0, (_, _) => rfl
    | ⟨_ + 1, h⟩, _ => absurd h (Nat.not_lt.2 (Nat.le_add_left _ _)))

/-- so are their body tables, -/
theorem tables_eq : Cert.Kernel.defs (F := F) = Cert.KernelIdeal.defs (F := F) := congrArg (Pipeline.defs _) kernels_eq

/-- and so is what they run. -/
theorem mains_eq : Cert.Kernel.main (F := F) = Cert.KernelIdeal.main (F := F) := rfl

/-- From any memory with every counter at zero `Kernel` terminates, with each device's argument as it was and every counter at zero. -/
theorem run_kernel (m : (ℓ : Loc Kernel.nD Kernel.τ Kernel.sig) → Buf (Elt F) ℓ) (ρ : Dev Kernel.nD → PrngReg) :
    θ_run Kernel.defs (onTc (τ := Kernel.τ) (Kernel.main (F := F))) ⟨m, fun _ => 0, ρ⟩ (fun r =>
      (∀ c : Dev Kernel.nD, r.2.mem ((c : Thread Kernel.nD Kernel.τ).loc Kernel.main_arg0) = m ((c : Thread Kernel.nD Kernel.τ).loc Kernel.main_arg0))
        ∧ r.2.sem = fun _ => 0) := by
  rw [tables_eq, mains_eq]
  exact (θ_run Cert.KernelIdeal.defs _ _).mono (fun _ h => ⟨fun c => (h.1 c).2, h.2⟩) (KernelIdeal.run_values (F := F) m ρ)

end Cert.Exchange

end
-- ==== Proof.Reference.lean ====
/-
The run of the reference, which gives back its argument: @main has no operation, so memory ends as it was.
-/
module

public import proofs.«01_k».proof.Proof.Gen.ReferenceIdeal
public import Idealize.ShloMosaic.Lib.StableHlo.Run
public import Idealize.ShloMosaic.Lib.Quiescent

@[expose] public section

noncomputable section

namespace Cert.Exchange

open Cert.ReferenceIdeal
open Idealize.ShloMosaic Idealize.ShloMosaic.TcCoe Idealize.SL.Sem

variable {F : FTy → Type} [FloatOps F]

/-- From any memory with every counter at zero the reference terminates, with every buffer as it was and every counter at zero. -/
theorem run_reference (m : (ℓ : Loc nD τ sig) → Buf (Elt F) ℓ) (ρ : Dev nD → PrngReg) :
    θ_run defs (onTc (τ := τ) (main (F := F))) ⟨m, fun _ => 0, ρ⟩ (fun r =>
      (∀ (c : Dev nD) (b : Ref sig .tc), r.2.mem ((c : Thread nD τ).loc b) = m ((c : Thread nD τ).loc b)) ∧ r.2.sem = fun _ => 0) :=
  (θ_run defs _ _).mono (fun r h => ⟨h, sem_eq_zero_of_no_sems (by decide) r.2⟩)
    (StableHlo.run_seq (by decide) (by decide) defs main (fun _ => []) (fun _ => rfl) (fun _ => trivial) m ρ)

end Cert.Exchange

end
-- ==== Proof.lean ====
/-
The proof of every claim stated of the exchange.
-/
module

public import proofs.«01_k».proof.Defs
public import proofs.«01_k».proof.Proof.KernelRun
public import proofs.«01_k».proof.Proof.Reference

@[expose] public section

noncomputable section

namespace Cert.Proof

open Idealize.ShloMosaic Idealize.SL.Sem

/-- The kernel terminates, leaves its argument and every counter as they were: as printed, -/
theorem frame_kernel : Cert.quiescent_Kernel := fun m ρ _ => Exchange.run_kernel m ρ

/-- at ideal values, -/
theorem frame_ideal : Cert.quiescent_KernelIdeal := fun m ρ _ =>
  (θ_run Cert.KernelIdeal.defs _ _).mono (fun _ h => ⟨fun c => (h.1 c).2, h.2⟩) (Exchange.KernelIdeal.run_values m ρ)

/-- and so does the reference. -/
theorem frame_reference : Cert.quiescent_ReferenceIdeal := fun m ρ _ =>
  (θ_run Cert.ReferenceIdeal.defs _ _).mono (fun _ h => ⟨fun c => h.1 c _, h.2⟩) (Exchange.run_reference m ρ)

/-- Where the devices' arguments are the row blocks of one whole array, their results are its column blocks, and the whole
    array is what the reference gives back. -/
theorem exchange : Cert.algebraic_KernelIdeal_ReferenceIdeal := fun m ρ m' ρ' _ hX =>
  ⟨_, (θ_run Cert.KernelIdeal.defs _ _).mono
      (fun _ h c => ⟨(h.1 c).1.trans (Exchange.KernelIdeal.outAt_block m ρ _ hX c), (h.1 c).2⟩) (Exchange.KernelIdeal.run_values m ρ),
    (θ_run Cert.ReferenceIdeal.defs _ _).mono (fun _ h => ⟨h.1 _ _, h.1 _ _⟩) (Exchange.run_reference m' ρ')⟩

theorem claim : Cert.Claim :=
  ⟨Cert.Kernel.Gen.facts, Cert.KernelIdeal.Gen.facts, Cert.ReferenceIdeal.Gen.facts,
    frame_kernel, frame_ideal, frame_reference, trivial, exchange⟩

end Cert.Proof

end
